-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_negative_index [hPre_no_negative_index : Cert.Pre_no_negative_index.Facts] (m : (ℓ : Loc Cert.KernelIdeal.nD Cert.KernelIdeal.τ Cert.KernelIdeal.sig) → Buf (Elt Ideal) ℓ) : Prop :=
  ∀ c : Dev Cert.KernelIdeal.nD,
    (Cert.Pre_no_negative_index.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_negative_index [hPre_no_negative_index : Cert.Pre_no_negative_index.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_negative_index.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_no_negative_index [hKernelIdeal : Cert.KernelIdeal.Facts] [hPre_no_negative_index : Cert.Pre_no_negative_index.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_negative_index m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_negative_index [hReferenceIdeal : Cert.ReferenceIdeal.Facts] [hPre_no_negative_index : Cert.Pre_no_negative_index.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_negative_index m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_no_negative_index [hKernelIdeal : Cert.KernelIdeal.Facts] [hReferenceIdeal : Cert.ReferenceIdeal.Facts] [hPre_no_negative_index : Cert.Pre_no_negative_index.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_negative_index m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_negative_index : Cert.Pre_no_negative_index.Facts),
    quiescent_Kernel (hKernel := hKernel)
    ∧ quiescent_KernelIdeal (hKernelIdeal := hKernelIdeal)
    ∧ quiescent_KernelIdeal_pre_no_negative_index (hKernelIdeal := hKernelIdeal) (hPre_no_negative_index := hPre_no_negative_index)
    ∧ quiescent_ReferenceIdeal (hReferenceIdeal := hReferenceIdeal)
    ∧ quiescent_ReferenceIdeal_pre_no_negative_index (hReferenceIdeal := hReferenceIdeal) (hPre_no_negative_index := hPre_no_negative_index)
    ∧ preserves_Kernel_KernelIdeal
    ∧ algebraic_KernelIdeal_ReferenceIdeal_pre_no_negative_index (hKernelIdeal := hKernelIdeal) (hReferenceIdeal := hReferenceIdeal) (hPre_no_negative_index := hPre_no_negative_index)
-- ==== Pre_no_negative_index.lean ====
abbrev S512x32x1024 : Shape := ⟨3, ![512, 32, 1024]⟩
abbrev S32 : Shape := ⟨1, ![32]⟩
abbrev S32x512x2 : Shape := ⟨3, ![32, 512, 2]⟩
abbrev S512x1024 : Shape := ⟨2, ![512, 1024]⟩
abbrev S_ : Shape := ⟨0, ![]⟩

class Facts : Prop where
  bcast_S_S32x512x2 : S_.BroadcastsInDim S32x512x2 (![] : Fin 0 → Fin S32x512x2.rank)
  reducesTo_S32x512x2_S_d0_1_2 : S32x512x2.ReducesTo [0, 1, 2] S_
  h_S_ : 0 < S_.numel

variable [Facts]

def fn {F : FTy → Type} [FloatOps F] (main_arg0 : FVec F S512x32x1024 .f32) (main_arg1 : IVec S32 32) (main_arg2 : IVec S32x512x2 32) (main_arg3 : FVec F S512x1024 .f32) : IVec S_ 1 :=
  let main_c : IVec S_ 32 := constantI S_ 32 0#32
  let main_v0 : IVec S32x512x2 32 := broadcastInDim S32x512x2 ![] bcast_S_S32x512x2 main_c
  let main_v1 : IVec S32x512x2 1 := cmpi .sge main_arg2 main_v0
  let main_c_0 : IVec S_ 1 := constantI S_ 1 1#1
  let main_v2 : IVec S_ 1 := (fun x v => Host.reduce IntOp.andi x v reducesTo_S32x512x2_S_d0_1_2 h_S_) main_v1 main_c_0
  main_v2
-- ==== Kernel.lean ====
abbrev S512x32x1024 : Shape := ⟨3, ![512, 32, 1024]⟩
abbrev S32 : Shape := ⟨1, ![32]⟩
abbrev S32x512x2 : Shape := ⟨3, ![32, 512, 2]⟩
abbrev S512x1024 : Shape := ⟨2, ![512, 1024]⟩
abbrev S32x512x512 : Shape := ⟨3, ![32, 512, 512]⟩
abbrev S2x512x2 : Shape := ⟨3, ![2, 512, 2]⟩
abbrev S2x512x512 : Shape := ⟨3, ![2, 512, 512]⟩
abbrev S6x512x1024 : Shape := ⟨3, ![6, 512, 1024]⟩
abbrev S6 : Shape := ⟨1, ![6]⟩
abbrev S1 : Shape := ⟨1, ![1]⟩
abbrev S_ : Shape := ⟨0, ![]⟩
abbrev S1x512x1024 : Shape := ⟨3, ![1, 512, 1024]⟩
abbrev S512x1x1024 : Shape := ⟨3, ![512, 1, 1024]⟩
abbrev S512x512 : Shape := ⟨2, ![512, 512]⟩
abbrev S512 : Shape := ⟨1, ![512]⟩
abbrev S512x1 : Shape := ⟨2, ![512, 1]⟩
abbrev S1x512x2 : Shape := ⟨3, ![1, 512, 2]⟩
abbrev S512x2 : Shape := ⟨2, ![512, 2]⟩
abbrev S1x512x512 : Shape := ⟨3, ![1, 512, 512]⟩

abbrev nBuf : Space → Nat
  | .hbm => 5
  | .vmem => 6
  | .smem => 0
  | _ => 0

abbrev bufTy : (tb : Table) → Fin (tcTables nBuf tb) → BufTy
  | .hbm, ⟨0, _⟩ => ⟨S512x32x1024, .f32⟩
  | .hbm, ⟨1, _⟩ => ⟨S32, .i32⟩
  | .hbm, ⟨2, _⟩ => ⟨S32x512x2, .i32⟩
  | .hbm, ⟨3, _⟩ => ⟨S512x1024, .f32⟩
  | .hbm, ⟨4, _⟩ => ⟨S32x512x512, .f32⟩
  | .local _ .vmem, ⟨0, _⟩ => ⟨S2x512x2, .i32⟩
  | .local _ .vmem, ⟨1, _⟩ => ⟨S2x512x2, .i32⟩
  | .local _ .vmem, ⟨2, _⟩ => ⟨S512x1024, .f32⟩
  | .local _ .vmem, ⟨3, _⟩ => ⟨S2x512x512, .f32⟩
  | .local _ .vmem, ⟨4, _⟩ => ⟨S2x512x512, .f32⟩
  | .local _ .vmem, ⟨5, _⟩ => ⟨S6x512x1024, .f32⟩
  | _, _ => ⟨S512x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32 : BitVec 32 := 2#32
  let v3 : BitVec 32 := Scalar.muli arg0 c2_i32
  let c0_i32_1 : BitVec 32 := 0#32
  let v4 : BitVec 32 := Scalar.addi v3 c0_i32_1
  let c6_i32 : BitVec 32 := 6#32
  let v5 : BitVec 32 := Scalar.addi v4 c6_i32
  let c2_i32_2 : BitVec 32 := 2#32
  let v6 : BitVec 32 := Scalar.subi v5 c2_i32_2
  let c32_i32 : BitVec 32 := 32#32
  let v7 : BitVec 1 := Scalar.cmpi .slt v6 c32_i32
  let v8 : BitVec 32 := Scalar.extui v7
  let c0_i32_3 : BitVec 32 := 0#32
  let v9 : BitVec 1 := Scalar.cmpi .ne v8 c0_i32_3
  v9

def k0_off1 (i : grid0.Coords) : Fin 1 → Nat :=
  let arg0 : BitVec 32 := BitVec.ofNat 32 (i 0).val
  let c2_i32 : BitVec 32 := 2#32
  let v3 : BitVec 32 := Scalar.muli arg0 c2_i32
  let c0_i32_1 : BitVec 32 := 0#32
  let v4 : BitVec 32 := Scalar.addi v3 c0_i32_1
  let c6_i32_65 : BitVec 32 := 6#32
  let v139 : BitVec 32 := Scalar.addi v4 c6_i32_65
  let c2_i32_66 : BitVec 32 := 2#32
  let v140 : BitVec 32 := Scalar.subi v139 c2_i32_66
  let c6_i32_67 : BitVec 32 := 6#32
  let v141 : BitVec 32 := Scalar.remsi v140 c6_i32_67
  ![v141.toNat]
def k0_off2 (i : grid0.Coords) : Fin 3 → Nat :=
  let arg0 : BitVec 32 := BitVec.ofNat 32 (i 0).val
  let c2_i32 : BitVec 32 := 2#32
  let v3 : BitVec 32 := Scalar.muli arg0 c2_i32
  let c0_i32_1 : BitVec 32 := 0#32
  let v4 : BitVec 32 := Scalar.addi v3 c0_i32_1
  let c6_i32_65 : BitVec 32 := 6#32
  let v139 : BitVec 32 := Scalar.addi v4 c6_i32_65
  let c2_i32_66 : BitVec 32 := 2#32
  let v140 : BitVec 32 := Scalar.subi v139 c2_i32_66
  let c6_i32_67 : BitVec 32 := 6#32
  let v141 : BitVec 32 := Scalar.remsi v140 c6_i32_67
  let c0_i32_68 : BitVec 32 := 0#32
  let c0_i32_69 : BitVec 32 := 0#32
  ![v141.toNat, 0, 0]
def k0_off3 (i : grid0.Coords) : Fin 3 → Nat :=
  let c0_i32_70 : BitVec 32 := 0#32
  let arg0 : BitVec 32 := BitVec.ofNat 32 (i 0).val
  let c2_i32 : BitVec 32 := 2#32
  let v3 : BitVec 32 := Scalar.muli arg0 c2_i32
  let c0_i32_1 : BitVec 32 := 0#32
  let v4 : BitVec 32 := Scalar.addi v3 c0_i32_1
  let c6_i32_63 : BitVec 32 := 6#32
  let v137 : BitVec 32 := Scalar.addi v4 c6_i32_63
  let c2_i32_64 : BitVec 32 := 2#32
  let v138 : BitVec 32 := Scalar.subi v137 c2_i32_64
  let c0_i32_71 : BitVec 32 := 0#32
  ![0, v138.toNat, 0]
def k0_cond3 (i : grid0.Coords) : BitVec 1 :=
  let arg0 : BitVec 32 := BitVec.ofNat 32 (i 0).val
  let c2_i32_4 : BitVec 32 := 2#32
  let v10 : BitVec 32 := Scalar.muli arg0 c2_i32_4
  let c1_i32 : BitVec 32 := 1#32
  let v11 : BitVec 32 := Scalar.addi v10 c1_i32
  let c6_i32_5 : BitVec 32 := 6#32
  let v12 : BitVec 32 := Scalar.addi v11 c6_i32_5
  let c2_i32_6 : BitVec 32 := 2#32
  let v13 : BitVec 32 := Scalar.subi v12 c2_i32_6
  let c32_i32_7 : BitVec 32 := 32#32
  let v14 : BitVec 1 := Scalar.cmpi .slt v13 c32_i32_7
  let v15 : BitVec 32 := Scalar.extui v14
  let c0_i32_8 : BitVec 32 := 0#32
  let v16 : BitVec 1 := Scalar.cmpi .ne v15 c0_i32_8
  v16

def k0_off4 (i : grid0.Coords) : Fin 1 → Nat :=
  let arg0 : BitVec 32 := BitVec.ofNat 32 (i 0).val
  let c2_i32_4 : BitVec 32 := 2#32
  let v10 : BitVec 32 := Scalar.muli arg0 c2_i32_4
  let c1_i32 : BitVec 32 := 1#32
  let v11 : BitVec 32 := Scalar.addi v10 c1_i32
  let c6_i32_65 : BitVec 32 := 6#32
  let v139 : BitVec 32 := Scalar.addi v11 c6_i32_65
  let c2_i32_66 : BitVec 32 := 2#32
  let v140 : BitVec 32 := Scalar.subi v139 c2_i32_66
  let c6_i32_67 : BitVec 32 := 6#32
  let v141 : BitVec 32 := Scalar.remsi v140 c6_i32_67
  ![v141.toNat]
def k0_off5 (i : grid0.Coords) : Fin 3 → Nat :=
  let arg0 : BitVec 32 := BitVec.ofNat 32 (i 0).val
  let c2_i32_4 : BitVec 32 := 2#32
  let v10 : BitVec 32 := Scalar.muli arg0 c2_i32_4
  let c1_i32 : BitVec 32 := 1#32
  let v11 : BitVec 32 := Scalar.addi v10 c1_i32
  let c6_i32_65 : BitVec 32 := 6#32
  let v139 : BitVec 32 := Scalar.addi v11 c6_i32_65
  let c2_i32_66 : BitVec 32 := 2#32
  let v140 : BitVec 32 := Scalar.subi v139 c2_i32_66
  let c6_i32_67 : BitVec 32 := 6#32
  let v141 : BitVec 32 := Scalar.remsi v140 c6_i32_67
  let c0_i32_68 : BitVec 32 := 0#32
  let c0_i32_69 : BitVec 32 := 0#32
  ![v141.toNat, 0, 0]
def k0_off6 (i : grid0.Coords) : Fin 3 → Nat :=
  let c0_i32_70 : BitVec 32 := 0#32
  let arg0 : BitVec 32 := BitVec.ofNat 32 (i 0).val
  let c2_i32_4 : BitVec 32 := 2#32
  let v10 : BitVec 32 := Scalar.muli arg0 c2_i32_4
  let c1_i32 : BitVec 32 := 1#32
  let v11 : BitVec 32 := Scalar.addi v10 c1_i32
  let c6_i32_63 : BitVec 32 := 6#32
  let v137 : BitVec 32 := Scalar.addi v11 c6_i32_63
  let c2_i32_64 : BitVec 32 := 2#32
  let v138 : BitVec 32 := Scalar.subi v137 c2_i32_64
  let c0_i32_71 : BitVec 32 := 0#32
  ![0, v138.toNat, 0]
def k0_off7 (i : grid0.Coords) (c0_i32_10 : BitVec 32) : Fin 1 → Nat :=
  let arg0 : BitVec 32 := BitVec.ofNat 32 (i 0).val
  let c2_i32_9 : BitVec 32 := 2#32
  let v17 : BitVec 32 := Scalar.muli arg0 c2_i32_9
  let v18 : BitVec 32 := Scalar.addi v17 c0_i32_10
  let c6_i32_11 : BitVec 32 := 6#32
  let v19 : BitVec 32 := Scalar.remsi v18 c6_i32_11
  ![v19.toNat]
def k0_off8 (i : grid0.Coords) (c0_i32_10 : BitVec 32) : Fin 3 → Nat :=
  let arg0 : BitVec 32 := BitVec.ofNat 32 (i 0).val
  let c2_i32_9 : BitVec 32 := 2#32
  let v17 : BitVec 32 := Scalar.muli arg0 c2_i32_9
  let v18 : BitVec 32 := Scalar.addi v17 c0_i32_10
  let c6_i32_11 : BitVec 32 := 6#32
  let v19 : BitVec 32 := Scalar.remsi v18 c6_i32_11
  let c0_i32_12 : BitVec 32 := 0#32
  let c0_i32_13 : BitVec 32 := 0#32
  ![v19.toNat, 0, 0]
def k0_off9 (i : grid0.Coords) (c0_i32_10 : BitVec 32) : Fin 3 → Nat :=
  let c0_i32_14 : BitVec 32 := 0#32
  let arg0 : BitVec 32 := BitVec.ofNat 32 (i 0).val
  let c2_i32_9 : BitVec 32 := 2#32
  let v17 : BitVec 32 := Scalar.muli arg0 c2_i32_9
  let v18 : BitVec 32 := Scalar.addi v17 c0_i32_10
  let c0_i32_15 : BitVec 32 := 0#32
  ![0, v18.toNat, 0]
def k0_off10 (i : grid0.Coords) (c0_i32_10 : BitVec 32) : Fin 3 → Nat :=
  let arg0 : BitVec 32 := BitVec.ofNat 32 (i 0).val
  let c2_i32_9 : BitVec 32 := 2#32
  let v17 : BitVec 32 := Scalar.muli arg0 c2_i32_9
  let v18 : BitVec 32 := Scalar.addi v17 c0_i32_10
  let c6_i32_11 : BitVec 32 := 6#32
  let v19 : BitVec 32 := Scalar.remsi v18 c6_i32_11
  let v26 : Index := Scalar.indexCast v19
  let c0 : Index := 0#32
  let c0_16 : Index := 0#32
  ![v26.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S512x32x1024 : Shape := ⟨3, ![512, 32, 1024]⟩
abbrev S32 : Shape := ⟨1, ![32]⟩
abbrev S32x512x2 : Shape := ⟨3, ![32, 512, 2]⟩
abbrev S512x1024 : Shape := ⟨2, ![512, 1024]⟩
abbrev S512x32x512 : Shape := ⟨3, ![512, 32, 512]⟩
abbrev S_ : Shape := ⟨0, ![]⟩
abbrev S32x512 : Shape := ⟨2, ![32, 512]⟩
abbrev S1x32x512 : Shape := ⟨3, ![1, 32, 512]⟩
abbrev S32x512x512 : Shape := ⟨3, ![32, 512, 512]⟩
abbrev S16384 : Shape := ⟨1, ![16384]⟩
abbrev S32x512x1 : Shape := ⟨3, ![32, 512, 1]⟩
abbrev S16384x1 : Shape := ⟨2, ![16384, 1]⟩
abbrev S16384x3 : Shape := ⟨2, ![16384, 3]⟩

abbrev nBuf : Space → Nat
  | .hbm => 116
  | .vmem => 0
  | .smem => 0
  | _ => 0

abbrev bufTy : (tb : Table) → Fin (tcTables nBuf tb) → BufTy
  | .hbm, ⟨0, _⟩ => ⟨S512x32x1024, .f32⟩
  | .hbm, ⟨1, _⟩ => ⟨S32, .i32⟩
  | .hbm, ⟨2, _⟩ => ⟨S32x512x2, .i32⟩
  | .hbm, ⟨3, _⟩ => ⟨S512x1024, .f32⟩
  | .hbm, ⟨4, _⟩ => ⟨S512x32x512, .f32⟩
  | .hbm, ⟨5, _⟩ => ⟨S_, .f32⟩
  | .hbm, ⟨6, _⟩ => ⟨S32x512, .f32⟩
  | .hbm, ⟨7, _⟩ => ⟨S_, .f32⟩
  | .hbm, ⟨8, _⟩ => ⟨S32x512, .f32⟩
  | .hbm, ⟨9, _⟩ => ⟨S32x512, .f32⟩
  | .hbm, ⟨10, _⟩ => ⟨S1x32x512, .f32⟩
  | .hbm, ⟨11, _⟩ => ⟨S512x32x512, .f32⟩
  | .hbm, ⟨12, _⟩ => ⟨S512x32x512, .f32⟩
  | .hbm, ⟨13, _⟩ => ⟨S512x32x512, .f32⟩
  | .hbm, ⟨14, _⟩ => ⟨S_, .f32⟩
  | .hbm, ⟨15, _⟩ => ⟨S32x512, .f32⟩
  | .hbm, ⟨16, _⟩ => ⟨S1x32x512, .f32⟩
  | .hbm, ⟨17, _⟩ => ⟨S512x32x512, .f32⟩
  | .hbm, ⟨18, _⟩ => ⟨S512x32x512, .f32⟩
  | .hbm, ⟨19, _⟩ => ⟨S32x512x512, .f32⟩
  | .hbm, ⟨20, _⟩ => ⟨S_, .f32⟩
  | .hbm, ⟨21, _⟩ => ⟨S32x512x512, .f32⟩
  | .hbm, ⟨22, _⟩ => ⟨S_, .f32⟩
  | .hbm, ⟨23, _⟩ => ⟨S32x512x512, .f32⟩
  | .hbm, ⟨24, _⟩ => ⟨S32x512x512, .f32⟩
  | .hbm, ⟨25, _⟩ => ⟨S_, .f32⟩
  | .hbm, ⟨26, _⟩ => ⟨S32x512x512, .f32⟩
  | .hbm, ⟨27, _⟩ => ⟨S32, .i32⟩
  | .hbm, ⟨28, _⟩ => ⟨S32x512, .i32⟩
  | .hbm, ⟨29, _⟩ => ⟨S16384, .i32⟩
  | .hbm, ⟨30, _⟩ => ⟨S32x512x1, .i32⟩
  | .hbm, ⟨31, _⟩ => ⟨S32x512, .i32⟩
  | .hbm, ⟨32, _⟩ => ⟨S16384, .i32⟩
  | .hbm, ⟨33, _⟩ => ⟨S32x512x1, .i32⟩
  | .hbm, ⟨34, _⟩ => ⟨S32x512, .i32⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S_, .i32⟩
  | .hbm, ⟨51, _⟩ => ⟨S16384, .i32⟩
  | .hbm, ⟨52, _⟩ => ⟨S16384, .i1⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S16384, .i32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S16384x1, .i32⟩
  | .hbm, ⟨72, _⟩ => ⟨S16384x1, .i32⟩
  | .hbm, ⟨73, _⟩ => ⟨S16384x1, .i32⟩
  | .hbm, ⟨74, _⟩ => ⟨S16384x3, .i32⟩
  | .hbm, ⟨75, _⟩ => ⟨S_, .f32⟩
  | .hbm, ⟨76, _⟩ => ⟨S16384, .f32⟩
  | .hbm, ⟨77, _⟩ => ⟨S32x512x512, .f32⟩
  | .hbm, ⟨78, _⟩ => ⟨S_, .i32⟩
  | .hbm, ⟨79, _⟩ => ⟨S16384, .i32⟩
  | .hbm, ⟨80, _⟩ => ⟨S16384, .i1⟩
  | .hbm, ⟨81, _⟩ => ⟨S_, .i32⟩
  | .hbm, ⟨82, _⟩ => ⟨S16384, .i32⟩
  | .hbm, ⟨83, _⟩ => ⟨S16384, .i32⟩
  | .hbm, ⟨84, _⟩ => ⟨S16384, .i32⟩
  | .hbm, ⟨85, _⟩ => ⟨S_, .i32⟩
  | .hbm, ⟨86, _⟩ => ⟨S16384, .i32⟩
  | .hbm, ⟨87, _⟩ => ⟨S16384, .i1⟩
  | .hbm, ⟨88, _⟩ => ⟨S_, .i32⟩
  | .hbm, ⟨89, _⟩ => ⟨S16384, .i32⟩
  | .hbm, ⟨90, _⟩ => ⟨S16384, .i32⟩
  | .hbm, ⟨91, _⟩ => ⟨S16384, .i32⟩
  | .hbm, ⟨92, _⟩ => ⟨S_, .i32⟩
  | .hbm, ⟨93, _⟩ => ⟨S16384, .i32⟩
  | .hbm, ⟨94, _⟩ => ⟨S16384, .i1⟩
  | .hbm, ⟨95, _⟩ => ⟨S_, .i32⟩
  | .hbm, ⟨96, _⟩ => ⟨S16384, .i32⟩
  | .hbm, ⟨97, _⟩ => ⟨S16384, .i32⟩
  | .hbm, ⟨98, _⟩ => ⟨S16384, .i32⟩
  | .hbm, ⟨99, _⟩ => ⟨S16384x1, .i32⟩
  | .hbm, ⟨100, _⟩ => ⟨S16384x1, .i32⟩
  | .hbm, ⟨101, _⟩ => ⟨S16384x1, .i32⟩
  | .hbm, ⟨102, _⟩ => ⟨S16384x3, .i32⟩
  | .hbm, ⟨103, _⟩ => ⟨S_, .f32⟩
  | .hbm, ⟨104, _⟩ => ⟨S16384, .f32⟩
  | .hbm, ⟨105, _⟩ => ⟨S32x512x512, .f32⟩
  | .hbm, ⟨106, _⟩ => ⟨S32x512x512, .f32⟩
  | .hbm, ⟨107, _⟩ => ⟨S_, .f32⟩
  | .hbm, ⟨108, _⟩ => ⟨S32x512, .f32⟩
  | .hbm, ⟨109, _⟩ => ⟨S32x512x1, .f32⟩
  | .hbm, ⟨110, _⟩ => ⟨S_, .f32⟩
  | .hbm, ⟨111, _⟩ => ⟨S32x512x1, .f32⟩
  | .hbm, ⟨112, _⟩ => ⟨S32x512x1, .f32⟩
  | .hbm, ⟨113, _⟩ => ⟨S32x512x512, .f32⟩
  | .hbm, ⟨114, _⟩ => ⟨S32x512x512, .f32⟩
  | .hbm, ⟨115, _⟩ => ⟨S32x512x512, .f32⟩
  | _, _ => ⟨S512x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_call0_v0 : Ref sig .tc := ⟨.hbm, 40, rfl⟩
abbrev main_call0_v1 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_12 : Ref sig .tc := ⟨.hbm, 64, rfl⟩
abbrev main_v42 : Ref sig .tc := ⟨.hbm, 65, rfl⟩
abbrev main_v43 : Ref sig .tc := ⟨.hbm, 66, rfl⟩
abbrev main_c_13 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_v52 : Ref sig .tc := ⟨.hbm, 77, rfl⟩
abbrev main_c_15 : Ref sig .tc := ⟨.hbm, 78, rfl⟩
abbrev main_v53 : Ref sig .tc := ⟨.hbm, 79, rfl⟩
abbrev main_v54 : Ref sig .tc := ⟨.hbm, 80, rfl⟩
abbrev main_c_16 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_17 : Ref sig .tc := ⟨.hbm, 85, rfl⟩
abbrev main_v58 : Ref sig .tc := ⟨.hbm, 86, rfl⟩
abbrev main_v59 : Ref sig .tc := ⟨.hbm, 87, rfl⟩
abbrev main_c_18 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_19 : Ref sig .tc := ⟨.hbm, 92, rfl⟩
abbrev main_v63 : Ref sig .tc := ⟨.hbm, 93, rfl⟩
abbrev main_v64 : Ref sig .tc := ⟨.hbm, 94, rfl⟩
abbrev main_c_20 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_21 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_22 : Ref sig .tc := ⟨.hbm, 107, rfl⟩
abbrev main_v75 : Ref sig .tc := ⟨.hbm, 108, rfl⟩
abbrev main_v76 : Ref sig .tc := ⟨.hbm, 109, rfl⟩
abbrev main_cst_23 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩

abbrev nD : Nat := 1
abbrev τ : Topo := Topo.v7x

variable {F : FTy → Type} [FloatOps F]
-- ==== Proof.Same.lean ====
module

public import proofs.«01_k».proof.KernelIdeal
public import proofs.«01_k».proof.Kernel
public import proofs.«01_k».proof.Proof.Gen.KernelIdeal.Launch
public import proofs.«01_k».proof.Proof.Gen.Kernel.Launch

@[expose] public section
noncomputable section
open Idealize.ShloMosaic
variable {F : FTy → Type} [FloatOps F]
/-- The kernel's host program and its ideal form's are the same, whatever the floats are. -/
theorem main_same : (Cert.Kernel.main (F := F)) = Cert.KernelIdeal.main (F := F) := rfl
/-- So are their bodies, -/
theorem defs0_same : (Cert.Kernel.defs₀ (F := F)) = Cert.KernelIdeal.defs₀ (F := F) := by
  unfold Cert.Kernel.defs₀ Cert.KernelIdeal.defs₀
  apply congrArg Defs.onTc
  funext l x
  match l, x with
  | 0, (t, s) => rfl
  | ⟨_ + 1, h⟩, _ => exact absurd h (Nat.not_lt.2 (Nat.le_add_left _ _))
/-- and so are their grids. -/
theorem defs_same : (Cert.Kernel.defs (F := F)) = Cert.KernelIdeal.defs (F := F) :=
  congrArg (Pipeline.defs (Cert.KernelIdeal.pcfgs (F := F))) defs0_same
end
-- ==== Proof.Stream.Base.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The program up to the grid -/

/-- Core `c`'s buffers when the grid starts: as they were launched. -/
abbrev V (c : Dev nD) (b : Ref sig .tc) : Buf (Elt F) ((c : Thread nD τ).loc b) := m ((c : Thread nD τ).loc b)

set_option maxHeartbeats 800000 in
/-- The program is the grid's run and nothing else. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The four arguments are as launched when the grid starts. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as it is when the grid starts. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of the edges holds its block at every point, whether it was brought in there or before. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of the weight holds its block at every point, whether it was brought in there or before. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments unchanged, from a run -/

/-- The arguments end as they began, given a run that ends with the arrays of the windows as the proof data say and with every other
buffer as it was. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c)))⟩) h

/-! ## The body's branch conditions -/

/-- The condition of the body's first branch: the point is the first. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's second branch, which starts the transfer into part 0. -/
abbrev cond0_1 (i : grid0.Coords) : Prop := k0_cond2 i = 1#1
/-- It holds at the points before point 14. -/
theorem hcond0_1 : ∀ t : Fin cfg0.N, cond0_1 (grid0.coords t) ↔ t.val < 14 :=
  (by decide +kernel : ∀ t : Fin grid0.N, cond0_1 (grid0.coords t) ↔ t.val < 14)

/-- The condition of the body's third branch, which starts the transfer into part 1. -/
abbrev cond0_2 (i : grid0.Coords) : Prop := k0_cond3 i = 1#1
/-- It holds at the points before point 14. -/
theorem hcond0_2 : ∀ t : Fin cfg0.N, cond0_2 (grid0.coords t) ↔ t.val < 14 :=
  (by decide +kernel : ∀ t : Fin grid0.N, cond0_2 (grid0.coords t) ↔ t.val < 14)

/-! ## What the body is given -/

/-- One of the result's buffers; its contents are stated through it, and any other would do. -/
abbrev VO0_2 : View sig .tc .vmem S2x512x512 .f32 := (Memref.whole cc0_stg2_0 : Memref sig .tc .vmem S2x512x512 .f32).view
/-- Each window's buffer at point `t`, and that it is whole. -/
abbrev ms0_0 (t : Fin cfg0.N) : Memref sig .tc .vmem S2x512x2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512x512 .f32 := win0_2.stage (cfg0.slots t 2)
abbrev hs0_2 (t : Fin cfg0.N) : (ms0_2 t).IsWhole := hstage0_2 ((cfg0.slots t 2).cast nbuf0_2)
/-- The six buffers, as one array. -/
abbrev scM0_0 : Memref sig .tc .vmem S6x512x1024 .f32 := Memref.whole cc0_scratch0
/-- The array M, which stays in main memory. -/
abbrev hbM0_0 : Memref sig .tc .hbm S512x32x1024 .f32 := Memref.whole main_arg0
/-- The contents of the buffer of `M` on core `c`; and below, that it is held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The six semaphores of the body's own transfers, by number. -/
abbrev osem0 : Fin 6 → SemLoc sig := fun j => (![SemLoc.dma 5, SemLoc.dma 6, SemLoc.dma 7, SemLoc.dma 8, SemLoc.dma 9, SemLoc.dma 10] : Fin 6 → SemLoc sig) j
/-- None of them belongs to a window. -/
theorem ownSemFacts0 : Pipeline.OwnSemFacts spec0 osem0 := by decide
/-- The six at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2, 3, 4, 5] (by decide) (by decide)]; rfl
/-- What the body moves from main memory itself: the array M. -/
def H0 : Finset (Ref sig .tc) := {main_arg0}
/-- No window stages it. -/
theorem H0_sub : H0 ⊆ Pipeline.restRefs sig spec0 := by decide
/-- It is held whole, as launched. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- What the launch hands the grid: the buffers at some contents, the generator's register at some state, the semaphores at zero and the
array M as launched. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg0))) := by
  rw [Pipeline.ΦD_eq, scopedRest0_eq, ownSems00_eq, hbmPts0_eq]; simp only [scM0_0, owns_whole]; try rfl

/-! ## The ring: the array streamed through three slots of two parts, one block of two batches to a slot, two blocks ahead, in 16 steps -/

instance : NeZero grid0.N := ⟨by rw [N_0]; decide⟩
/-- A part lies within the buffers, its semaphore among the semaphores, and a half of a block within the array. -/
theorem inb_win0_0 (s : Fin 3) (w : Fin 2) : ∀ a, (![2 * s.val + w.val, 0, 0] : Fin 3 → Nat) a + S1x512x1024.size a ≤ S6x512x1024.size a := by
  have := s.isLt; have := w.isLt; intro a; fin_cases a <;> simp <;> omega
theorem inb_cell0_0 (s : Fin 3) (w : Fin 2) : ∀ a, (![2 * s.val + w.val] : Fin 1 → Nat) a + S1.size a ≤ S6.size a := by
  have := s.isLt; have := w.isLt; intro a; fin_cases a <;> simp <;> omega
theorem inb_src0_0_0 (b : Fin 16) : ∀ a, (![0, 2 * b.val, 0] : Fin 3 → Nat) a + S512x1x1024.size a ≤ S512x32x1024.size a := by
  have := b.isLt; intro a; fin_cases a <;> simp <;> omega
/-- Part 0 of slot `s`, as a transfer into it names it. -/
def rwin0_0_0 (s : Fin 3) : Memref sig .tc .vmem S512x1024 .f32 :=
  (scM0_0.slice (Rect.unit (s := S6x512x1024) ![2 * s.val, 0, 0] S1x512x1024.size (inb_win0_0 s 0)) (fun _ => rfl)).squeeze S512x1024 squeezes_S1x512x1024_S512x1024
/-- The first half of block `b` of the array, as a transfer names it. -/
def srcB0_0_0 (b : Fin 16) : Memref sig .tc .hbm S512x1024 .f32 :=
  (hbM0_0.slice (Rect.unit (s := S512x32x1024) ![0, 2 * b.val, 0] S512x1x1024.size (inb_src0_0_0 b)) (fun _ => rfl)).squeeze S512x1024 squeezes_S512x1x1024_S512x1024
theorem inb_src0_0_1 (b : Fin 16) : ∀ a, (![0, 2 * b.val + 1, 0] : Fin 3 → Nat) a + S512x1x1024.size a ≤ S512x32x1024.size a := by
  have := b.isLt; intro a; fin_cases a <;> simp <;> omega
/-- Part 1 of slot `s`, as a transfer into it names it. -/
def rwin0_0_1 (s : Fin 3) : Memref sig .tc .vmem S512x1024 .f32 :=
  (scM0_0.slice (Rect.unit (s := S6x512x1024) ![2 * s.val + 1, 0, 0] S1x512x1024.size (inb_win0_0 s 1)) (fun _ => rfl)).squeeze S512x1024 squeezes_S1x512x1024_S512x1024
/-- The second half of block `b` of the array, as a transfer names it. -/
def srcB0_0_1 (b : Fin 16) : Memref sig .tc .hbm S512x1024 .f32 :=
  (hbM0_0.slice (Rect.unit (s := S512x32x1024) ![0, 2 * b.val + 1, 0] S512x1x1024.size (inb_src0_0_1 b)) (fun _ => rfl)).squeeze S512x1024 squeezes_S512x1x1024_S512x1024
/-- The semaphore of part `w` of slot `s`; and below, its number. -/
def cellA0_0 (s : Fin 3) (w : Fin 2) : DmaSems sig S_ := (cc0_scratch1.slice (Rect.unit (s := S6) ![2 * s.val + w.val] S1.size (inb_cell0_0 s w))).squeeze S_ squeezes_S1_S_
abbrev cellR0_0 (s : Fin 3) (w : Fin 2) : SemLoc sig := SemLoc.dma (cellA0_0 s w).sem
theorem cellR0_0_0_0 : cellR0_0 0 0 = SemLoc.dma 5 := by decide
theorem cellR0_0_0_1 : cellR0_0 0 1 = SemLoc.dma 6 := by decide
theorem cellR0_0_1_0 : cellR0_0 1 0 = SemLoc.dma 7 := by decide
theorem cellR0_0_1_1 : cellR0_0 1 1 = SemLoc.dma 8 := by decide
theorem cellR0_0_2_0 : cellR0_0 2 0 = SemLoc.dma 9 := by decide
theorem cellR0_0_2_1 : cellR0_0 2 1 = SemLoc.dma 10 := by decide

section Ring0_0
variable (c : Dev nD) (W0 : HbBuf0 (F := F) c hbM0_0)
/-- The array is lent by share, one share of it to each part of each slot, so that transfers in flight borrow apart from each other. -/
abbrev qs0_0_0 (s : Fin 3) : PosShare TreeShare := if s.val = 0 then fullShare.left else if s.val = 1 then fullShare.right.left else fullShare.right.right.left
abbrev qs0_0_1 (s : Fin 3) : PosShare TreeShare := if s.val = 0 then fullShare.right.right.right.left else if s.val = 1 then fullShare.right.right.right.right.left else fullShare.right.right.right.right.right
/-- A part of slot `s` held at `e`; the slot as its two parts; its semaphores at zero; what a transfer borrows of its share of the array,
the rest of that share, and the share whole; the part once block `b` has landed in it; and the transfer of half a block in flight, which
will give back the part, landed, and what it borrowed. -/
abbrev winP0_0_0 (s : Fin 3) (e : HbBuf0 (F := F) c scM0_0) : sProp 𝕄 := (rwin0_0_0 s).view.loc (c : Thread nD τ) ↦[(rwin0_0_0 s).view.set]{fullShare} e
abbrev winP0_0_1 (s : Fin 3) (e : HbBuf0 (F := F) c scM0_0) : sProp 𝕄 := (rwin0_0_1 s).view.loc (c : Thread nD τ) ↦[(rwin0_0_1 s).view.set]{fullShare} e
abbrev slotP0_0 (s : Fin 3) (f : Fin 2 → HbBuf0 (F := F) c scM0_0) : sProp 𝕄 := iprop(winP0_0_0 c s (f 0) ∗ winP0_0_1 c s (f 1))
abbrev cellP0_0 (s : Fin 3) : sProp 𝕄 := iprop(semVal ((c : Thread nD τ), cellR0_0 s 0) 0 ∗ semVal ((c : Thread nD τ), cellR0_0 s 1) 0)
abbrev srcP0_0_0 (s : Fin 3) (b : Fin 16) : sProp 𝕄 := (srcB0_0_0 b).view.loc (c : Thread nD τ) ↦[(srcB0_0_0 b).view.set]{qs0_0_0 s} W0
def restP0_0_0 (s : Fin 3) (b : Fin 16) : sProp 𝕄 := ((c : Thread nD τ).loc main_arg0) ↦[Finset.univ \ (srcB0_0_0 b).view.set]{qs0_0_0 s} W0
abbrev wholeP0_0_0 (s : Fin 3) : sProp 𝕄 := ((c : Thread nD τ).loc main_arg0) ↦[Finset.univ]{qs0_0_0 s} W0
abbrev landed0_0_0 (s : Fin 3) (b : Fin 16) (f : HbBuf0 (F := F) c scM0_0) : HbBuf0 (F := F) c scM0_0 :=
  (rwin0_0_0 s).view.writes (Elt F) f [⟨Rect.whole S512x1024, ReadAs.same.apply ((srcB0_0_0 b).view.read (Elt F) W0)⟩]
abbrev flightP0_0_0 (s : Fin 3) (b : Fin 16) (f : HbBuf0 (F := F) c scM0_0) : sProp 𝕄 :=
  Transfers.Flight countersEmb (c : Thread nD τ) (cellR0_0 s 0) default ((rwin0_0_0 s).view.amount (cellR0_0 s 0))
    iprop(winP0_0_0 c s (landed0_0_0 c W0 s b f) ∗ srcP0_0_0 c W0 s b)
abbrev srcP0_0_1 (s : Fin 3) (b : Fin 16) : sProp 𝕄 := (srcB0_0_1 b).view.loc (c : Thread nD τ) ↦[(srcB0_0_1 b).view.set]{qs0_0_1 s} W0
def restP0_0_1 (s : Fin 3) (b : Fin 16) : sProp 𝕄 := ((c : Thread nD τ).loc main_arg0) ↦[Finset.univ \ (srcB0_0_1 b).view.set]{qs0_0_1 s} W0
abbrev wholeP0_0_1 (s : Fin 3) : sProp 𝕄 := ((c : Thread nD τ).loc main_arg0) ↦[Finset.univ]{qs0_0_1 s} W0
abbrev landed0_0_1 (s : Fin 3) (b : Fin 16) (f : HbBuf0 (F := F) c scM0_0) : HbBuf0 (F := F) c scM0_0 :=
  (rwin0_0_1 s).view.writes (Elt F) f [⟨Rect.whole S512x1024, ReadAs.same.apply ((srcB0_0_1 b).view.read (Elt F) W0)⟩]
abbrev flightP0_0_1 (s : Fin 3) (b : Fin 16) (f : HbBuf0 (F := F) c scM0_0) : sProp 𝕄 :=
  Transfers.Flight countersEmb (c : Thread nD τ) (cellR0_0 s 1) default ((rwin0_0_1 s).view.amount (cellR0_0 s 1))
    iprop(winP0_0_1 c s (landed0_0_1 c W0 s b f) ∗ srcP0_0_1 c W0 s b)
/-- The two parts of slot `s` once block `b` has landed there, whatever was there before. -/
abbrev landedJ0_0 (s : Fin 3) (b : Fin 16) : Fin 2 → HbBuf0 (F := F) c scM0_0 := ![landed0_0_0 c W0 s b (rwin0_0_0 s).view.junk, landed0_0_1 c W0 s b (rwin0_0_1 s).view.junk]
/-- Both transfers of block `b` into slot `s` in flight. -/
abbrev flightP0_0 (s : Fin 3) (b : Fin 16) (f : Fin 2 → HbBuf0 (F := F) c scM0_0) : sProp 𝕄 := iprop(flightP0_0_0 c W0 s b (f 0) ∗ flightP0_0_1 c W0 s b (f 1))

/-- A slot that is not in flight comes with its two shares of the array whole; one in flight, with the rests of them. No block is
kept apart. -/
abbrev slotW0_0 (s : Fin 3) (f : Fin 2 → HbBuf0 (F := F) c scM0_0) : sProp 𝕄 := iprop(slotP0_0 c s f ∗ wholeP0_0_0 c W0 s ∗ wholeP0_0_1 c W0 s)
abbrev flightW0_0 (s : Fin 3) (b : Fin 16) (f : Fin 2 → HbBuf0 (F := F) c scM0_0) : sProp 𝕄 := iprop(flightP0_0 c W0 s b f ∗ restP0_0_0 c W0 s b ∗ restP0_0_1 c W0 s b)
abbrev noHome0_0 (b : Fin 16) : sProp 𝕄 := iprop(emp)
/-- The ring before its step `k`: every slot free before the first step; from then on blocks `k` and `k + 1` in flight into slots `k`
and `k + 1`, as long as there are such blocks, and slot `k + 2` free. -/
def ringAt0_0 (k : ℕ) : sProp 𝕄 :=
  if k = 0 then Ring.At₀ (cellP0_0 c) (slotW0_0 c W0) noHome0_0
  else Ring.At 2 (cellP0_0 c) (slotW0_0 c W0) noHome0_0 (flightW0_0 c W0) k
omit [FloatOps F] in
theorem cellP0_0_0 : cellP0_0 (F := F) c 0 = iprop(semVal ((c : Thread nD τ), SemLoc.dma 5) 0 ∗ semVal ((c : Thread nD τ), SemLoc.dma 6) 0) := by simp only [cellP0_0, cellR0_0_0_0, cellR0_0_0_1]
omit [FloatOps F] in
theorem cellP0_0_1 : cellP0_0 (F := F) c 1 = iprop(semVal ((c : Thread nD τ), SemLoc.dma 7) 0 ∗ semVal ((c : Thread nD τ), SemLoc.dma 8) 0) := by simp only [cellP0_0, cellR0_0_1_0, cellR0_0_1_1]
omit [FloatOps F] in
theorem cellP0_0_2 : cellP0_0 (F := F) c 2 = iprop(semVal ((c : Thread nD τ), SemLoc.dma 9) 0 ∗ semVal ((c : Thread nD τ), SemLoc.dma 10) 0) := by simp only [cellP0_0, cellR0_0_2_0, cellR0_0_2_1]
end Ring0_0

/-! ### The parts are pairwise disjoint -/

/-- The offsets of a part, that it lies within the buffers, and its elements. -/
abbrev winOff0_0 (i : Fin 3 × Fin 2) : Fin 3 → Nat := ![2 * i.1.val + i.2.val, 0, 0]
theorem inb_win0_0' (i : Fin 3 × Fin 2) : ∀ a, winOff0_0 i a + S1x512x1024.size a ≤ S6x512x1024.size a := inb_win0_0 i.1 i.2
abbrev winSet0_0 (i : Fin 3 × Fin 2) : Finset S6x512x1024.Idx := (Rect.unit (s := S6x512x1024) (winOff0_0 i) S1x512x1024.size (inb_win0_0' i)).set
/-- The elements of part 0 of slot `s`, and of part 1. -/
theorem winSet0_0_eq_0 (s : Fin 3) : (rwin0_0_0 s).view.set = winSet0_0 (s, 0) := by
  simp only [rwin0_0_0, Memref.view_squeeze, View.set_reshape]; exact View.set_slice_whole _ _
theorem winSet0_0_eq_1 (s : Fin 3) : (rwin0_0_1 s).view.set = winSet0_0 (s, 1) := by
  simp only [rwin0_0_1, Memref.view_squeeze, View.set_reshape]; exact View.set_slice_whole _ _
/-- The number of a part, and the slot and part of a number. -/
def winIx0_0 (i : Fin 3 × Fin 2) : Fin 3 → ℕ := ![2 * i.1.val + i.2.val, 0, 0]
def winUn0_0 (v : Fin 3 → ℕ) : Fin 3 × Fin 2 := (Fin.ofNat 3 (v 0 / 2), Fin.ofNat 2 (v 0 % 2))
theorem winUn0_0_left : ∀ i : Fin 3 × Fin 2, winUn0_0 (winIx0_0 i) = i := by decide +kernel
/-- Different parts have no element in common. -/
theorem wins0_0_disjoint (i i' : Fin 3 × Fin 2) (h : i ≠ i') : Disjoint (winSet0_0 i) (winSet0_0 i') :=
  Ring.boxes_disjoint (s := S6x512x1024) S1x512x1024.size winOff0_0 inb_win0_0' winIx0_0
    (fun i a => by fin_cases a <;> simp [winOff0_0, winIx0_0] <;> omega) winUn0_0 winUn0_0_left i i' h
/-- The elements of the buffers that are in no part; they are carried along at some contents. -/
abbrev spareSet0_0 : Finset S6x512x1024.Idx := Finset.univ \ Finset.univ.biUnion winSet0_0
abbrev spareP0_0 (c : Dev nD) : sProp 𝕄 := iprop(∃ f : Buf (Elt F) ((c : Thread nD τ).loc cc0_scratch0), ((c : Thread nD τ).loc cc0_scratch0) ↦[spareSet0_0]{fullShare} f)

/-! ### What the launch hands the ring, and takes back -/

section InOut0_0
variable (c : Dev nD) (W0 : HbBuf0 (F := F) c hbM0_0)
/-- A part held is its elements held. -/
theorem winP0_0_eq (i : Fin 3 × Fin 2) (e : HbBuf0 (F := F) c scM0_0) : (![winP0_0_0 (F := F) c i.1 e, winP0_0_1 (F := F) c i.1 e] : Fin 2 → sProp 𝕄) i.2 = (((c : Thread nD τ).loc cc0_scratch0) ↦[winSet0_0 i]{fullShare} e : sProp 𝕄) := by
  obtain ⟨s, w⟩ := i
  fin_cases w
  · show winP0_0_0 (F := F) c s e = _; unfold winP0_0_0; rw [winSet0_0_eq_0]; rfl
  · show winP0_0_1 (F := F) c s e = _; unfold winP0_0_1; rw [winSet0_0_eq_1]; rfl
/-- The parts, each at some contents, are the slots, each at some contents. -/
theorem slots0_0_eq : (bigSep Finset.univ (fun i : Fin 3 × Fin 2 => iprop(∃ e, (fun (i : Fin 3 × Fin 2) (e : HbBuf0 (F := F) c scM0_0) => (![winP0_0_0 c i.1 e, winP0_0_1 c i.1 e] : Fin 2 → sProp 𝕄) i.2) i e)) : sProp 𝕄) = iprop((∃ f, slotP0_0 (F := F) c 0 f) ∗ (∃ f, slotP0_0 (F := F) c 1 f) ∗ ∃ f, slotP0_0 (F := F) c 2 f) := by
  rw [BI.bigSep_univ_prod, Ring.bigSep_fin3]
  have e : ∀ j : Fin 3, (bigSep Finset.univ (fun w : Fin 2 => iprop(∃ e, (fun (i : Fin 3 × Fin 2) (e : HbBuf0 (F := F) c scM0_0) => (![winP0_0_0 c i.1 e, winP0_0_1 c i.1 e] : Fin 2 → sProp 𝕄) i.2) (j, w) e)) : sProp 𝕄) = iprop(∃ f, slotP0_0 (F := F) c j f) := fun j => by
    rw [← Ring.bigSep_exists_pi_eq]; unfold slotP0_0
    refine congrArg _ (funext fun f => ?_)
    rw [BI.bigSep_eq_bigSepL_of_eq [0, 1] (by decide) (by decide)]; rfl
  rw [e 0, e 1, e 2]

/-- A slot at a pair of contents is each part at its own. -/
theorem slotP0_0_tuple (s : Fin 3) (a0 a1 : HbBuf0 (F := F) c scM0_0) : slotP0_0 (F := F) c s ![a0, a1] = iprop(winP0_0_0 c s a0 ∗ winP0_0_1 c s a1) := rfl
/-- Both parts landed make the slot landed. -/
theorem slotP0_0_landed (s : Fin 3) (b : Fin 16) : iprop(winP0_0_0 c s (landed0_0_0 c W0 s b (rwin0_0_0 s).view.junk) ∗ winP0_0_1 c s (landed0_0_1 c W0 s b (rwin0_0_1 s).view.junk)) ⊢ slotP0_0 (F := F) c s (landedJ0_0 c W0 s b) :=
  Entails.of_eq (slotP0_0_tuple c s (landed0_0_0 c W0 s b (rwin0_0_0 s).view.junk) (landed0_0_1 c W0 s b (rwin0_0_1 s).view.junk)).symm
/-- Part 0's share of the array is what a transfer borrows and the rest. -/
theorem src0_0_0_split (s : Fin 3) (b : Fin 16) : wholeP0_0_0 (F := F) c W0 s ⊣⊢ iprop(srcP0_0_0 c W0 s b ∗ restP0_0_0 c W0 s b) := by
  unfold restP0_0_0; exact pointsTo_split_subset (Finset.subset_univ _)
/-- Part 1's share of the array is what a transfer borrows and the rest. -/
theorem src0_0_1_split (s : Fin 3) (b : Fin 16) : wholeP0_0_1 (F := F) c W0 s ⊣⊢ iprop(srcP0_0_1 c W0 s b ∗ restP0_0_1 c W0 s b) := by
  unfold restP0_0_1; exact pointsTo_split_subset (Finset.subset_univ _)
/-- The array held whole is the six shares of it. -/
theorem whole0_0_r0_split : (hbPt0 c hbM0_0 W0 : sProp 𝕄) ⊣⊢ iprop(wholeP0_0_0 c W0 0 ∗ wholeP0_0_0 c W0 1 ∗ wholeP0_0_0 c W0 2 ∗ wholeP0_0_1 c W0 0 ∗ wholeP0_0_1 c W0 1 ∗ wholeP0_0_1 c W0 2) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, R3⟩
    ihave G3 := (pointsTo_share (PosShare.mem_left_op_right fullShare.right.right.right)).1 $$ R3
    icases G3 with ⟨H3, R4⟩
    ihave G4 := (pointsTo_share (PosShare.mem_left_op_right fullShare.right.right.right.right)).1 $$ R4
    icases G4 with ⟨H4, H5⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iapply (pointsTo_share (PosShare.mem_left_op_right fullShare.right.right.right)).2
    isplitl [H3]; · iexact H3
    iapply (pointsTo_share (PosShare.mem_left_op_right fullShare.right.right.right.right)).2
    isplitl [H4]; · iexact H4
    iexact H5

set_option maxHeartbeats 1000000 in
/-- The buffers at some contents are the slots at some contents, and the elements in no part. -/
theorem slots0_0_in : iprop(∃ d, owns (c : Thread nD τ) scM0_0 fullShare d) ⊢ (iprop(((∃ f, slotP0_0 (F := F) c 0 f) ∗ (∃ f, slotP0_0 (F := F) c 1 f) ∗ ∃ f, slotP0_0 (F := F) c 2 f) ∗ spareP0_0 c) : sProp 𝕄) := by
  simp only [scM0_0, owns_whole]
  rw [← slots0_0_eq c]
  exact Ring.pieces_split_spare (U := Pipeline.UD sig nD τ) (ℓ := (c : Thread nD τ).loc cc0_scratch0) (q := fullShare) winSet0_0 wins0_0_disjoint
    (fun (i : Fin 3 × Fin 2) (e : HbBuf0 (F := F) c scM0_0) => (![winP0_0_0 c i.1 e, winP0_0_1 c i.1 e] : Fin 2 → sProp 𝕄) i.2) (winP0_0_eq c)
set_option maxHeartbeats 1000000 in
/-- And back. -/
theorem slots0_0_out : (iprop(((∃ f, slotP0_0 (F := F) c 0 f) ∗ (∃ f, slotP0_0 (F := F) c 1 f) ∗ ∃ f, slotP0_0 (F := F) c 2 f) ∗ spareP0_0 c) : sProp 𝕄) ⊢ iprop(∃ d, owns (c : Thread nD τ) scM0_0 fullShare d) := by
  simp only [scM0_0, owns_whole]
  rw [← slots0_0_eq c]
  exact Ring.pieces_join_spare (U := Pipeline.UD sig nD τ) (ℓ := (c : Thread nD τ).loc cc0_scratch0) (q := fullShare) winSet0_0 wins0_0_disjoint
    (fun (i : Fin 3 × Fin 2) (e : HbBuf0 (F := F) c scM0_0) => (![winP0_0_0 c i.1 e, winP0_0_1 c i.1 e] : Fin 2 → sProp 𝕄) i.2) (winP0_0_eq c)
end InOut0_0

/-- Into the ring: the buffers, the semaphores at zero and the array are the ring before its first step. -/
theorem ring0_0_in (c : Dev nD) :
    iprop((∃ d, owns (c : Thread nD τ) scM0_0 fullShare d) ∗ (semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ hbPt0 c hbM0_0 (V m c main_arg0))
      ⊢ iprop(ringAt0_0 c (V m c main_arg0) 0 ∗ spareP0_0 c) := by
  unfold ringAt0_0; rw [if_pos rfl]; unfold Ring.At₀
  rw [Ring.bigSep_fin3]
  simp only [Ring.free, cellP0_0_0, cellP0_0_1, cellP0_0_2]
  iintro ⟨HS, Hc, HR0⟩
  icases Hc with ⟨H0_0, H0_1, H1_0, H1_1, H2_0, H2_1⟩
  ihave HS' := (slots0_0_in (F := F) c) $$ HS
  icases HS' with ⟨⟨⟨%d0, HS0⟩, ⟨%d1, HS1⟩, ⟨%d2, HS2⟩⟩, HSp⟩
  ihave HR0' := (whole0_0_r0_split (F := F) c (V m c main_arg0)).1 $$ HR0
  icases HR0' with ⟨HW0_0, HW0_1, HW0_2, HW1_0, HW1_1, HW1_2⟩
  isplitl [H0_0 H0_1 HS0 HW0_0 HW1_0 H1_0 H1_1 HS1 HW0_1 HW1_1 H2_0 H2_1 HS2 HW0_2 HW1_2]
  · iapply Ring.with_homes₀
    isplitl [H0_0 H0_1 HS0 HW0_0 HW1_0]
    · isplitl [H0_0 H0_1]
      · isplitl [H0_0]; · iexact H0_0
        iexact H0_1
      iexists d0; isplitl [HS0]; · iexact HS0
      isplitl [HW0_0]; · iexact HW0_0
      iexact HW1_0
    isplitl [H1_0 H1_1 HS1 HW0_1 HW1_1]
    · isplitl [H1_0 H1_1]
      · isplitl [H1_0]; · iexact H1_0
        iexact H1_1
      iexists d1; isplitl [HS1]; · iexact HS1
      isplitl [HW0_1]; · iexact HW0_1
      iexact HW1_1
    · isplitl [H2_0 H2_1]
      · isplitl [H2_0]; · iexact H2_0
        iexact H2_1
      iexists d2; isplitl [HS2]; · iexact HS2
      isplitl [HW0_2]; · iexact HW0_2
      iexact HW1_2
  iexact HSp
/-- Out of the ring: after the last step they are all there again. -/
theorem ring0_0_out (c : Dev nD) :
    iprop(ringAt0_0 c (V m c main_arg0) 16 ∗ spareP0_0 c)
      ⊢ iprop((∃ d, owns (c : Thread nD τ) scM0_0 fullShare d) ∗ (semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ hbPt0 c hbM0_0 (V m c main_arg0)) := by
  unfold ringAt0_0; rw [if_neg (by decide)]
  iintro ⟨H, HSp⟩
  ihave H' := (Ring.free3_of_At_last _ _ _ _) $$ H
  simp only [Ring.free, cellP0_0_0, cellP0_0_1, cellP0_0_2]
  icases H' with ⟨-, ⟨⟨H0_0, H0_1⟩, ⟨%f0, HS0, HW0_0, HW1_0⟩⟩, ⟨⟨H1_0, H1_1⟩, ⟨%f1, HS1, HW0_1, HW1_1⟩⟩, ⟨⟨H2_0, H2_1⟩, ⟨%f2, HS2, HW0_2, HW1_2⟩⟩⟩
  isplitl [HS0 HS1 HS2 HSp]
  · iapply (slots0_0_out (F := F) c); isplitl [HS0 HS1 HS2]
    · isplitl [HS0]; · iexists f0; iexact HS0
      isplitl [HS1]; · iexists f1; iexact HS1
      iexists f2; iexact HS2
    iexact HSp
  isplitl [H0_0 H0_1 H1_0 H1_1 H2_0 H2_1]
  · isplitl [H0_0]; · iexact H0_0
    isplitl [H0_1]; · iexact H0_1
    isplitl [H1_0]; · iexact H1_0
    isplitl [H1_1]; · iexact H1_1
    isplitl [H2_0]; · iexact H2_0
    iexact H2_1
  · iapply (whole0_0_r0_split (F := F) c (V m c main_arg0)).2; isplitl [HW0_0]; · iexact HW0_0
    isplitl [HW0_1]; · iexact HW0_1
    isplitl [HW0_2]; · iexact HW0_2
    isplitl [HW1_0]; · iexact HW1_0
    isplitl [HW1_1]; · iexact HW1_1
    iexact HW1_2

/-! ### The ring's step at each kind of point, and the names of what the body touches

The body names a part of a slot, its semaphore and a block of the array by offsets computed from the point. Each such name is the
ring's own. -/

section Canon0_0
omit [FloatOps F]
/-- At the first point the ring takes its first step. -/
theorem rstep0_0_A : ∀ t : Fin grid0.N, cond0_0 (grid0.coords t) → cond0_1 (grid0.coords t) → cond0_2 (grid0.coords t) → t.val = 0 ∧ (t.val + 1) = 1 := by decide +kernel
/-- At points 1 to 13 the ring takes a step with a block still to start. -/
theorem rstep0_0_B : ∀ t : Fin grid0.N, ¬cond0_0 (grid0.coords t) → cond0_1 (grid0.coords t) → cond0_2 (grid0.coords t) → 1 ≤ t.val ∧ t.val + 2 < 16 ∧ (t.val + 1) = t.val + 1 := by decide +kernel
/-- At the last two points the ring takes a step with no block left to start. -/
theorem rstep0_0_C : ∀ t : Fin grid0.N, ¬cond0_0 (grid0.coords t) → ¬cond0_1 (grid0.coords t) → ¬cond0_2 (grid0.coords t) → 1 ≤ t.val ∧ 16 ≤ t.val + 2 ∧ t.val < 16 ∧ (t.val + 1) = t.val + 1 := by decide +kernel

/-- A window of the buffers at the offsets of part 0 of slot `s` is that part. -/
theorem part0_at {off : Fin 3 → Nat} {s : Fin 3} (h : off = ![2 * s.val, 0, 0]) (inb : ∀ a, off a + S1x512x1024.size a ≤ S6x512x1024.size a) :
    (scM0_0.slice (Rect.unit (s := S6x512x1024) off S1x512x1024.size inb) (fun _ => rfl)).squeeze S512x1024 squeezes_S1x512x1024_S512x1024 = rwin0_0_0 s := by
  subst h; rfl
/-- A window of the buffers at the offsets of part 1 of slot `s` is that part. -/
theorem part1_at {off : Fin 3 → Nat} {s : Fin 3} (h : off = ![2 * s.val + 1, 0, 0]) (inb : ∀ a, off a + S1x512x1024.size a ≤ S6x512x1024.size a) :
    (scM0_0.slice (Rect.unit (s := S6x512x1024) off S1x512x1024.size inb) (fun _ => rfl)).squeeze S512x1024 squeezes_S1x512x1024_S512x1024 = rwin0_0_1 s := by
  subst h; rfl
/-- A window of the semaphores at the offset of a part's is that part's semaphore. -/
theorem cell_at {off : Fin 1 → Nat} {s : Fin 3} {w : Fin 2} (h : off = ![2 * s.val + w.val]) (inb : ∀ a, off a + S1.size a ≤ S6.size a) :
    (cc0_scratch1.slice (Rect.unit (s := S6) off S1.size inb)).squeeze S_ squeezes_S1_S_ = cellA0_0 s w := by
  subst h; rfl
/-- A window of the array at the offsets of the first half of block `b` is that half. -/
theorem block0_at {off : Fin 3 → Nat} {b : Fin 16} (h : off = ![0, 2 * b.val, 0]) (inb : ∀ a, off a + S512x1x1024.size a ≤ S512x32x1024.size a) :
    (hbM0_0.slice (Rect.unit (s := S512x32x1024) off S512x1x1024.size inb) (fun _ => rfl)).squeeze S512x1024 squeezes_S512x1x1024_S512x1024 = srcB0_0_0 b := by
  subst h; rfl
/-- A window of the array at the offsets of the second half of block `b` is that half. -/
theorem block1_at {off : Fin 3 → Nat} {b : Fin 16} (h : off = ![0, 2 * b.val + 1, 0]) (inb : ∀ a, off a + S512x1x1024.size a ≤ S512x32x1024.size a) :
    (hbM0_0.slice (Rect.unit (s := S512x32x1024) off S512x1x1024.size inb) (fun _ => rfl)).squeeze S512x1024 squeezes_S512x1x1024_S512x1024 = srcB0_0_1 b := by
  subst h; rfl

/-- The buffers that the transfers of point `t` fill are the two parts of slot `t + 2`. -/
theorem fill_part : ∀ t : Fin grid0.N, k0_off2 (grid0.coords t) = ![2 * (Ring.sl 3 (t.val + 2)).val, 0, 0]
    ∧ k0_off5 (grid0.coords t) = ![2 * (Ring.sl 3 (t.val + 2)).val + 1, 0, 0] := by decide +kernel
/-- They are counted on that slot's two semaphores. -/
theorem fill_cell : ∀ t : Fin grid0.N, k0_off1 (grid0.coords t) = ![2 * (Ring.sl 3 (t.val + 2)).val + (0 : Fin 2).val]
    ∧ k0_off4 (grid0.coords t) = ![2 * (Ring.sl 3 (t.val + 2)).val + (1 : Fin 2).val] := by decide +kernel
/-- They bring the two halves of block `t + 2`. -/
theorem fill_block : ∀ t : Fin grid0.N, cond0_1 (grid0.coords t) → k0_off3 (grid0.coords t) = ![0, 2 * (Ring.bk 16 (t.val + 2)).val, 0]
    ∧ k0_off6 (grid0.coords t) = ![0, 2 * (Ring.bk 16 (t.val + 2)).val + 1, 0] := by decide +kernel
/-- The buffers that point `t` waits for are the two parts of slot `t`. -/
theorem wait_part : ∀ t : Fin grid0.N, k0_off8 (grid0.coords t) 0#32 = ![2 * (Ring.sl 3 t.val).val, 0, 0]
    ∧ k0_off8 (grid0.coords t) 1#32 = ![2 * (Ring.sl 3 t.val).val + 1, 0, 0] := by decide +kernel
/-- It waits on that slot's two semaphores. -/
theorem wait_cell : ∀ t : Fin grid0.N, k0_off7 (grid0.coords t) 0#32 = ![2 * (Ring.sl 3 t.val).val + (0 : Fin 2).val]
    ∧ k0_off7 (grid0.coords t) 1#32 = ![2 * (Ring.sl 3 t.val).val + (1 : Fin 2).val] := by decide +kernel
/-- It reads the same two parts. -/
theorem read_part : ∀ t : Fin grid0.N, k0_off10 (grid0.coords t) 0#32 = ![2 * (Ring.sl 3 t.val).val, 0, 0]
    ∧ k0_off10 (grid0.coords t) 1#32 = ![2 * (Ring.sl 3 t.val).val + 1, 0, 0] := by decide +kernel
/-- The first read's offsets, written by the slot. -/
instance (priority := high) closedOff0_0_25 (t : Fin grid0.N) : ClosedOff (k0_off10 (grid0.coords t) 0#32) := ⟨![2 * (Ring.sl 3 t.val).val, 0, 0], (read_part t).1⟩
/-- The second read's offsets, written by the slot. -/
instance (priority := high) closedOff0_0_26 (t : Fin grid0.N) : ClosedOff (k0_off10 (grid0.coords t) 1#32) := ⟨![2 * (Ring.sl 3 t.val).val + 1, 0, 0], (read_part t).2⟩
end Canon0_0

end Cert.KernelIdeal.Stream

end
-- ==== Proof.Stream.RunA.lean ====
module

public import proofs.«01_k».proof.Proof.Stream.Base

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the first point. It starts the transfers of blocks 0, 1 and 2, waits for block 0 and writes the result's block. The value is
the list of its stores; the property, that from the three slots free it runs to the end and leaves the inputs as they were, blocks 1 and
2 in flight, slot 0 free again and the result's buffer with those stores. -/
noncomputable def kernelRun0_A (c : Dev nD) (t : Fin cfg0.N) (arg1 : Memref sig .tc .vmem S2x512x2 .i32) (harg1 : arg1.IsWhole) (arg3 : Memref sig .tc .vmem S512x1024 .f32) (harg3 : arg3.IsWhole) (arg4 : Memref sig .tc .vmem S2x512x512 .f32) (harg4 : arg4.IsWhole) (hc0 : cond0_0 (grid0.coords t)) (hc1 : cond0_1 (grid0.coords t)) (hc2 : cond0_2 (grid0.coords t))
    (x0 : Vec F S2x512x2 .i32) (x1 : Vec F S512x1024 .f32) (fh0 : HbBuf0 (F := F) c hbM0_0) :
    { L2 : List (View.Piece (Elt F) S2x512x512 .f32) //
      ∀ (W : Waits sig Unit) (K : PUnit → sProp 𝕄),
        iprop(owns (c : Thread nD τ) arg1 fullShare x0 ∗ owns (c : Thread nD τ) arg3 fullShare x1 ∗ (∃ d, owns (c : Thread nD τ) arg4 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ owes (c : Thread nD τ) 0 W
            ∗ (iprop(owns (c : Thread nD τ) arg1 fullShare x0 ∗ owns (c : Thread nD τ) arg3 fullShare x1 ∗ (∃ f, arg4.view.loc (c : Thread nD τ) ↦[arg4.view.set]{fullShare} arg4.view.writes (Elt F) f L2) ∗ Ring.inflight (flightW0_0 c fh0) (Ring.sl 3 (t.val + 1)) (Ring.bk 16 (t.val + 1)) ∗ Ring.inflight (flightW0_0 c fh0) (Ring.sl 3 (t.val + 2)) (Ring.bk 16 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0__mea_kernel (grid0.coords t) arg1 harg1 (Memref.whole main_arg0) (Memref.isWhole_whole _) arg3 harg3 arg4 harg4 scM0_0 (Memref.isWhole_whole _) cc0_scratch1) K } := by
  refine ⟨?_, fun W K => ?run⟩
  case run =>
    haveI : Fact (cond0_0 (grid0.coords t)) := ⟨hc0⟩
    haveI : Fact (cond0_1 (grid0.coords t)) := ⟨hc1⟩
    haveI : Fact (cond0_2 (grid0.coords t)) := ⟨hc2⟩
    have hcanon0 := part0_at (wait_part t).1 (k0_off8_inb (grid0.coords t) 0)
    have hcanon1 := part1_at (wait_part t).2 (k0_off8_inb (grid0.coords t) 1)
    have hcanon2 := cell_at (wait_cell t).1 (k0_off7_inb (grid0.coords t) 0)
    have hcanon3 := cell_at (wait_cell t).2 (k0_off7_inb (grid0.coords t) 1)
    have hcanon4 := part0_at (fill_part t).1 (k0_off2_inb (grid0.coords t) hc1)
    have hcanon5 := part1_at (fill_part t).2 (k0_off5_inb (grid0.coords t) hc2)
    have hcanon6 := cell_at (fill_cell t).1 (k0_off1_inb (grid0.coords t) hc1)
    have hcanon7 := cell_at (fill_cell t).2 (k0_off4_inb (grid0.coords t) hc2)
    have hcanon8 := block0_at (fill_block t hc1).1 (k0_off3_inb (grid0.coords t) hc1)
    have hcanon9 := block1_at (fill_block t hc1).2 (k0_off6_inb (grid0.coords t) hc2)
    have ht : t.val = 0 := (rstep0_0_A t hc0 hc1 hc2).1
    have hcanon10 := part0_at (off := ![0, 0, 0]) (s := Ring.sl 3 t.val) (by rw [ht]; rfl) inb_S6x512x1024_S1x512x1024_0_0_0
    have hcanon11 := part1_at (off := ![1, 0, 0]) (s := Ring.sl 3 t.val) (by rw [ht]; rfl) inb_S6x512x1024_S1x512x1024_1_0_0
    have hcanon12 := cell_at (off := ![0]) (s := Ring.sl 3 t.val) (w := 0) (by rw [ht]; rfl) inb_S6_S1_0
    have hcanon13 := cell_at (off := ![1]) (s := Ring.sl 3 t.val) (w := 1) (by rw [ht]; rfl) inb_S6_S1_1
    have hcanon14 := block0_at (off := ![0, 0, 0]) (b := Ring.bk 16 t.val) (by rw [ht]; rfl) inb_S512x32x1024_S512x1x1024_0_0_0
    have hcanon15 := block1_at (off := ![0, 1, 0]) (b := Ring.bk 16 t.val) (by rw [ht]; rfl) inb_S512x32x1024_S512x1x1024_0_1_0
    have hcanon16 := part0_at (off := ![2, 0, 0]) (s := Ring.sl 3 (t.val + 1)) (by rw [ht]; rfl) inb_S6x512x1024_S1x512x1024_2_0_0
    have hcanon17 := part1_at (off := ![3, 0, 0]) (s := Ring.sl 3 (t.val + 1)) (by rw [ht]; rfl) inb_S6x512x1024_S1x512x1024_3_0_0
    have hcanon18 := cell_at (off := ![2]) (s := Ring.sl 3 (t.val + 1)) (w := 0) (by rw [ht]; rfl) inb_S6_S1_2
    have hcanon19 := cell_at (off := ![3]) (s := Ring.sl 3 (t.val + 1)) (w := 1) (by rw [ht]; rfl) inb_S6_S1_3
    have hcanon20 := block0_at (off := ![0, 2, 0]) (b := Ring.bk 16 (t.val + 1)) (by rw [ht]; rfl) inb_S512x32x1024_S512x1x1024_0_2_0
    have hcanon21 := block1_at (off := ![0, 3, 0]) (b := Ring.bk 16 (t.val + 1)) (by rw [ht]; rfl) inb_S512x32x1024_S512x1x1024_0_3_0
    simp only [cc0__mea_kernel_eq_skeleton]; unfold cc0__mea_kernel_skel
    simp only [k0_part1_eq_skeleton, k0_part2_eq_skeleton, k0_part3_eq_skeleton]
    unfold owns Ring.free Ring.inflight
    iintro ⟨⟨%f0, %hf0, H0⟩, ⟨%f1, %hf1, H1⟩, ⟨%d2, %f2, -, H2⟩, ⟨⟨Hc0_0_0_0, Hc0_0_0_1⟩, ⟨%fs0_0_0, ⟨Hs0_0_0_0, Hs0_0_0_1⟩, Hw0_0_0_0, Hw0_0_0_1⟩⟩, ⟨⟨Hc0_0_1_0, Hc0_0_1_1⟩, ⟨%fs0_0_1, ⟨Hs0_0_1_0, Hs0_0_1_1⟩, Hw0_0_1_0, Hw0_0_1_1⟩⟩, ⟨⟨Hc0_0_2_0, Hc0_0_2_1⟩, ⟨%fs0_0_2, ⟨Hs0_0_2_0, Hs0_0_2_1⟩, Hw0_0_2_0, Hw0_0_2_1⟩⟩, HW, Hk⟩
    ihave Hsp0_0_0_0 := (src0_0_0_split c fh0 (Ring.sl 3 t.val) (Ring.bk 16 t.val)).1 $$ Hw0_0_0_0
    icases Hsp0_0_0_0 with ⟨Hh0_0_0_0, Hr0_0_0_0⟩
    ihave Hsp0_0_0_1 := (src0_0_1_split c fh0 (Ring.sl 3 t.val) (Ring.bk 16 t.val)).1 $$ Hw0_0_0_1
    icases Hsp0_0_0_1 with ⟨Hh0_0_0_1, Hr0_0_0_1⟩
    ihave Hsp0_0_1_0 := (src0_0_0_split c fh0 (Ring.sl 3 (t.val + 1)) (Ring.bk 16 (t.val + 1))).1 $$ Hw0_0_1_0
    icases Hsp0_0_1_0 with ⟨Hh0_0_1_0, Hr0_0_1_0⟩
    ihave Hsp0_0_1_1 := (src0_0_1_split c fh0 (Ring.sl 3 (t.val + 1)) (Ring.bk 16 (t.val + 1))).1 $$ Hw0_0_1_1
    icases Hsp0_0_1_1 with ⟨Hh0_0_1_1, Hr0_0_1_1⟩
    ihave Hsp0_0_2_0 := (src0_0_0_split c fh0 (Ring.sl 3 (t.val + 2)) (Ring.bk 16 (t.val + 2))).1 $$ Hw0_0_2_0
    icases Hsp0_0_2_0 with ⟨Hh0_0_2_0, Hr0_0_2_0⟩
    ihave Hsp0_0_2_1 := (src0_0_1_split c fh0 (Ring.sl 3 (t.val + 2)) (Ring.bk 16 (t.val + 2))).1 $$ Hw0_0_2_1
    icases Hsp0_0_2_1 with ⟨Hh0_0_2_1, Hr0_0_2_1⟩
    obtain rfl := harg1.eq_unread hf0; obtain rfl := harg3.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg3.read_unread _
      iexact H1
    isplitl [H2]; · iexists _; iexact H2
    isplitl [Hc0_0_1_0 Hc0_0_1_1 Hr0_0_1_0 Hr0_0_1_1]
    · iexists fs0_0_1; isplitl [Hc0_0_1_0 Hc0_0_1_1]
      · isplitl [Hc0_0_1_0]; · iexact Hc0_0_1_0
        iexact Hc0_0_1_1
      isplitl [Hr0_0_1_0]; · iexact Hr0_0_1_0
      iexact Hr0_0_1_1
    isplitl [Hc0_0_2_0 Hc0_0_2_1 Hr0_0_2_0 Hr0_0_2_1]
    · iexists fs0_0_2; isplitl [Hc0_0_2_0 Hc0_0_2_1]
      · isplitl [Hc0_0_2_0]; · iexact Hc0_0_2_0
        iexact Hc0_0_2_1
      isplitl [Hr0_0_2_0]; · iexact Hr0_0_2_0
      iexact Hr0_0_2_1
    isplitl [Hc0_0_0_0 Hc0_0_0_1 Hs0_0_0_0 Hs0_0_0_1 Hh0_0_0_0 Hh0_0_0_1 Hr0_0_0_0 Hr0_0_0_1]
    · isplitl [Hc0_0_0_0 Hc0_0_0_1]
      · isplitl [Hc0_0_0_0]; · iexact Hc0_0_0_0
        iexact Hc0_0_0_1
      iexists (landedJ0_0 c fh0 (Ring.sl 3 t.val) (Ring.bk 16 t.val)); isplitl [Hs0_0_0_0 Hs0_0_0_1]
      · iapply (slotP0_0_landed c fh0 (Ring.sl 3 t.val) (Ring.bk 16 t.val))
        isplitl [Hs0_0_0_0]; · iexact Hs0_0_0_0
        iexact Hs0_0_0_1
      isplitl [Hh0_0_0_0 Hr0_0_0_0]
      · iapply (src0_0_0_split c fh0 (Ring.sl 3 t.val) (Ring.bk 16 t.val)).2; isplitl [Hh0_0_0_0]; · iexact Hh0_0_0_0
        iexact Hr0_0_0_0
      iapply (src0_0_1_split c fh0 (Ring.sl 3 t.val) (Ring.bk 16 t.val)).2; isplitl [Hh0_0_0_1]; · iexact Hh0_0_0_1
      iexact Hr0_0_0_1
    iexists _; iexact HW

end Cert.KernelIdeal.Stream

end
-- ==== Proof.Stream.RunB.lean ====
module

public import proofs.«01_k».proof.Proof.Stream.RunA

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at points 1 to 13. It starts the transfers of block `t + 2`, waits for block `t` and writes the result's block. The value is the
list of its stores; the property, that from blocks `t` and `t + 1` in flight it runs to the end and leaves the inputs as they were, blocks
`t + 1` and `t + 2` in flight, slot `t` free again and the result's buffer with those stores. -/
noncomputable def kernelRun0_B (c : Dev nD) (t : Fin cfg0.N) (arg1 : Memref sig .tc .vmem S2x512x2 .i32) (harg1 : arg1.IsWhole) (arg3 : Memref sig .tc .vmem S512x1024 .f32) (harg3 : arg3.IsWhole) (arg4 : Memref sig .tc .vmem S2x512x512 .f32) (harg4 : arg4.IsWhole) (hc0 : ¬cond0_0 (grid0.coords t)) (hc1 : cond0_1 (grid0.coords t)) (hc2 : cond0_2 (grid0.coords t))
    (x0 : Vec F S2x512x2 .i32) (x1 : Vec F S512x1024 .f32) (fh0 : HbBuf0 (F := F) c hbM0_0) :
    { L2 : List (View.Piece (Elt F) S2x512x512 .f32) //
      ∀ (W : Waits sig Unit) (K : PUnit → sProp 𝕄),
        iprop(owns (c : Thread nD τ) arg1 fullShare x0 ∗ owns (c : Thread nD τ) arg3 fullShare x1 ∗ (∃ d, owns (c : Thread nD τ) arg4 fullShare d) ∗ Ring.inflight (flightW0_0 c fh0) (Ring.sl 3 t.val) (Ring.bk 16 t.val) ∗ Ring.inflight (flightW0_0 c fh0) (Ring.sl 3 (t.val + 1)) (Ring.bk 16 (t.val + 1)) ∗ Ring.free (cellP0_0 c) (slotW0_0 c fh0) (Ring.sl 3 (t.val + 2)) ∗ owes (c : Thread nD τ) 0 W
            ∗ (iprop(owns (c : Thread nD τ) arg1 fullShare x0 ∗ owns (c : Thread nD τ) arg3 fullShare x1 ∗ (∃ f, arg4.view.loc (c : Thread nD τ) ↦[arg4.view.set]{fullShare} arg4.view.writes (Elt F) f L2) ∗ Ring.inflight (flightW0_0 c fh0) (Ring.sl 3 (t.val + 1)) (Ring.bk 16 (t.val + 1)) ∗ Ring.inflight (flightW0_0 c fh0) (Ring.sl 3 (t.val + 2)) (Ring.bk 16 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0__mea_kernel (grid0.coords t) arg1 harg1 (Memref.whole main_arg0) (Memref.isWhole_whole _) arg3 harg3 arg4 harg4 scM0_0 (Memref.isWhole_whole _) cc0_scratch1) K } := by
  refine ⟨?_, fun W K => ?run⟩
  case run =>
    haveI : Fact (¬cond0_0 (grid0.coords t)) := ⟨hc0⟩
    haveI : Fact (cond0_1 (grid0.coords t)) := ⟨hc1⟩
    haveI : Fact (cond0_2 (grid0.coords t)) := ⟨hc2⟩
    have hcanon0 := part0_at (wait_part t).1 (k0_off8_inb (grid0.coords t) 0)
    have hcanon1 := part1_at (wait_part t).2 (k0_off8_inb (grid0.coords t) 1)
    have hcanon2 := cell_at (wait_cell t).1 (k0_off7_inb (grid0.coords t) 0)
    have hcanon3 := cell_at (wait_cell t).2 (k0_off7_inb (grid0.coords t) 1)
    have hcanon4 := part0_at (fill_part t).1 (k0_off2_inb (grid0.coords t) hc1)
    have hcanon5 := part1_at (fill_part t).2 (k0_off5_inb (grid0.coords t) hc2)
    have hcanon6 := cell_at (fill_cell t).1 (k0_off1_inb (grid0.coords t) hc1)
    have hcanon7 := cell_at (fill_cell t).2 (k0_off4_inb (grid0.coords t) hc2)
    have hcanon8 := block0_at (fill_block t hc1).1 (k0_off3_inb (grid0.coords t) hc1)
    have hcanon9 := block1_at (fill_block t hc1).2 (k0_off6_inb (grid0.coords t) hc2)
    simp only [cc0__mea_kernel_eq_skeleton]; unfold cc0__mea_kernel_skel
    simp only [k0_part1_eq_skeleton, k0_part2_eq_skeleton, k0_part3_eq_skeleton]
    unfold owns Ring.free Ring.inflight
    iintro ⟨⟨%f0, %hf0, H0⟩, ⟨%f1, %hf1, H1⟩, ⟨%d2, %f2, -, H2⟩, ⟨%ff0_0_0, ⟨Hf0_0_0_0, Hf0_0_0_1⟩, Hrf0_0_0_0, Hrf0_0_0_1⟩, ⟨%ff0_0_1, ⟨Hf0_0_1_0, Hf0_0_1_1⟩, Hrf0_0_1_0, Hrf0_0_1_1⟩, ⟨⟨Hc0_0_2_0, Hc0_0_2_1⟩, ⟨%fs0_0_2, ⟨Hs0_0_2_0, Hs0_0_2_1⟩, Hw0_0_2_0, Hw0_0_2_1⟩⟩, HW, Hk⟩
    ihave Hsp0_0_2_0 := (src0_0_0_split c fh0 (Ring.sl 3 (t.val + 2)) (Ring.bk 16 (t.val + 2))).1 $$ Hw0_0_2_0
    icases Hsp0_0_2_0 with ⟨Hh0_0_2_0, Hr0_0_2_0⟩
    ihave Hsp0_0_2_1 := (src0_0_1_split c fh0 (Ring.sl 3 (t.val + 2)) (Ring.bk 16 (t.val + 2))).1 $$ Hw0_0_2_1
    icases Hsp0_0_2_1 with ⟨Hh0_0_2_1, Hr0_0_2_1⟩
    obtain rfl := harg1.eq_unread hf0; obtain rfl := harg3.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg3.read_unread _
      iexact H1
    isplitl [H2]; · iexists _; iexact H2
    isplitl [Hf0_0_1_0 Hf0_0_1_1 Hrf0_0_1_0 Hrf0_0_1_1]
    · iexists ff0_0_1; isplitl [Hf0_0_1_0 Hf0_0_1_1]
      · isplitl [Hf0_0_1_0]; · iexact Hf0_0_1_0
        iexact Hf0_0_1_1
      isplitl [Hrf0_0_1_0]; · iexact Hrf0_0_1_0
      iexact Hrf0_0_1_1
    isplitl [Hc0_0_2_0 Hc0_0_2_1 Hr0_0_2_0 Hr0_0_2_1]
    · iexists fs0_0_2; isplitl [Hc0_0_2_0 Hc0_0_2_1]
      · isplitl [Hc0_0_2_0]; · iexact Hc0_0_2_0
        iexact Hc0_0_2_1
      isplitl [Hr0_0_2_0]; · iexact Hr0_0_2_0
      iexact Hr0_0_2_1
    isplitl [Hf0_0_0_0 Hf0_0_0_1 Hf0_0_0_0_dst Hf0_0_0_1_dst Hf0_0_0_0_src Hf0_0_0_1_src Hrf0_0_0_0 Hrf0_0_0_1]
    · isplitl [Hf0_0_0_0 Hf0_0_0_1]
      · isplitl [Hf0_0_0_0]; · iexact Hf0_0_0_0
        iexact Hf0_0_0_1
      iexists (landedJ0_0 c fh0 (Ring.sl 3 t.val) (Ring.bk 16 t.val)); isplitl [Hf0_0_0_0_dst Hf0_0_0_1_dst]
      · iapply (slotP0_0_landed c fh0 (Ring.sl 3 t.val) (Ring.bk 16 t.val))
        isplitl [Hf0_0_0_0_dst]; · iexact Hf0_0_0_0_dst
        iexact Hf0_0_0_1_dst
      isplitl [Hf0_0_0_0_src Hrf0_0_0_0]
      · iapply (src0_0_0_split c fh0 (Ring.sl 3 t.val) (Ring.bk 16 t.val)).2; isplitl [Hf0_0_0_0_src]; · iexact Hf0_0_0_0_src
        iexact Hrf0_0_0_0
      iapply (src0_0_1_split c fh0 (Ring.sl 3 t.val) (Ring.bk 16 t.val)).2; isplitl [Hf0_0_0_1_src]; · iexact Hf0_0_0_1_src
      iexact Hrf0_0_0_1
    iexists _; iexact HW

end Cert.KernelIdeal.Stream

end
-- ==== Proof.Stream.RunC.lean ====
module

public import proofs.«01_k».proof.Proof.Stream.RunB

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the last two points. It starts nothing, waits for block `t` and writes the result's block. The value is the list of its
stores; the property, that it runs to the end and leaves the inputs as they were, slot `t` free again and the result's buffer with those
stores. -/
noncomputable def kernelRun0_C (c : Dev nD) (t : Fin cfg0.N) (arg1 : Memref sig .tc .vmem S2x512x2 .i32) (harg1 : arg1.IsWhole) (arg3 : Memref sig .tc .vmem S512x1024 .f32) (harg3 : arg3.IsWhole) (arg4 : Memref sig .tc .vmem S2x512x512 .f32) (harg4 : arg4.IsWhole) (hc0 : ¬cond0_0 (grid0.coords t)) (hc1 : ¬cond0_1 (grid0.coords t)) (hc2 : ¬cond0_2 (grid0.coords t))
    (x0 : Vec F S2x512x2 .i32) (x1 : Vec F S512x1024 .f32) (fh0 : HbBuf0 (F := F) c hbM0_0) :
    { L2 : List (View.Piece (Elt F) S2x512x512 .f32) //
      ∀ (W : Waits sig Unit) (K : PUnit → sProp 𝕄),
        iprop(owns (c : Thread nD τ) arg1 fullShare x0 ∗ owns (c : Thread nD τ) arg3 fullShare x1 ∗ (∃ d, owns (c : Thread nD τ) arg4 fullShare d) ∗ Ring.inflight (flightW0_0 c fh0) (Ring.sl 3 t.val) (Ring.bk 16 t.val) ∗ Ring.slotAt 2 (cellP0_0 c) (slotW0_0 c fh0) (flightW0_0 c fh0) t.val 1 ∗ Ring.free (cellP0_0 c) (slotW0_0 c fh0) (Ring.sl 3 (t.val + 2)) ∗ owes (c : Thread nD τ) 0 W
            ∗ (iprop(owns (c : Thread nD τ) arg1 fullShare x0 ∗ owns (c : Thread nD τ) arg3 fullShare x1 ∗ (∃ f, arg4.view.loc (c : Thread nD τ) ↦[arg4.view.set]{fullShare} arg4.view.writes (Elt F) f L2) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0__mea_kernel (grid0.coords t) arg1 harg1 (Memref.whole main_arg0) (Memref.isWhole_whole _) arg3 harg3 arg4 harg4 scM0_0 (Memref.isWhole_whole _) cc0_scratch1) K } := by
  refine ⟨?_, fun W K => ?run⟩
  case run =>
    haveI : Fact (¬cond0_0 (grid0.coords t)) := ⟨hc0⟩
    haveI : Fact (¬cond0_1 (grid0.coords t)) := ⟨hc1⟩
    haveI : Fact (¬cond0_2 (grid0.coords t)) := ⟨hc2⟩
    have hcanon0 := part0_at (wait_part t).1 (k0_off8_inb (grid0.coords t) 0)
    have hcanon1 := part1_at (wait_part t).2 (k0_off8_inb (grid0.coords t) 1)
    have hcanon2 := cell_at (wait_cell t).1 (k0_off7_inb (grid0.coords t) 0)
    have hcanon3 := cell_at (wait_cell t).2 (k0_off7_inb (grid0.coords t) 1)
    simp only [cc0__mea_kernel_eq_skeleton]; unfold cc0__mea_kernel_skel
    simp only [k0_part1_eq_skeleton, k0_part2_eq_skeleton, k0_part3_eq_skeleton]
    unfold owns Ring.free Ring.inflight
    iintro ⟨⟨%f0, %hf0, H0⟩, ⟨%f1, %hf1, H1⟩, ⟨%d2, %f2, -, H2⟩, ⟨%ff0_0_0, ⟨Hf0_0_0_0, Hf0_0_0_1⟩, Hrf0_0_0_0, Hrf0_0_0_1⟩, Hro0_0_1, ⟨⟨Hc0_0_2_0, Hc0_0_2_1⟩, ⟨%fs0_0_2, ⟨Hs0_0_2_0, Hs0_0_2_1⟩, Hw0_0_2_0, Hw0_0_2_1⟩⟩, HW, Hk⟩
    obtain rfl := harg1.eq_unread hf0; obtain rfl := harg3.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg3.read_unread _
      iexact H1
    isplitl [H2]; · iexists _; iexact H2
    isplitl [Hro0_0_1]; · iexact Hro0_0_1
    isplitl [Hc0_0_2_0 Hc0_0_2_1 Hs0_0_2_0 Hs0_0_2_1 Hw0_0_2_0 Hw0_0_2_1]
    · isplitl [Hc0_0_2_0 Hc0_0_2_1]
      · isplitl [Hc0_0_2_0]; · iexact Hc0_0_2_0
        iexact Hc0_0_2_1
      iexists fs0_0_2; isplitl [Hs0_0_2_0 Hs0_0_2_1]
      · isplitl [Hs0_0_2_0]; · iexact Hs0_0_2_0
        iexact Hs0_0_2_1
      isplitl [Hw0_0_2_0]; · iexact Hw0_0_2_0
      iexact Hw0_0_2_1
    isplitl [Hf0_0_0_0 Hf0_0_0_1 Hf0_0_0_0_dst Hf0_0_0_1_dst Hf0_0_0_0_src Hf0_0_0_1_src Hrf0_0_0_0 Hrf0_0_0_1]
    · isplitl [Hf0_0_0_0 Hf0_0_0_1]
      · isplitl [Hf0_0_0_0]; · iexact Hf0_0_0_0
        iexact Hf0_0_0_1
      iexists (landedJ0_0 c fh0 (Ring.sl 3 t.val) (Ring.bk 16 t.val)); isplitl [Hf0_0_0_0_dst Hf0_0_0_1_dst]
      · iapply (slotP0_0_landed c fh0 (Ring.sl 3 t.val) (Ring.bk 16 t.val))
        isplitl [Hf0_0_0_0_dst]; · iexact Hf0_0_0_0_dst
        iexact Hf0_0_0_1_dst
      isplitl [Hf0_0_0_0_src Hrf0_0_0_0]
      · iapply (src0_0_0_split c fh0 (Ring.sl 3 t.val) (Ring.bk 16 t.val)).2; isplitl [Hf0_0_0_0_src]; · iexact Hf0_0_0_0_src
        iexact Hrf0_0_0_0
      iapply (src0_0_1_split c fh0 (Ring.sl 3 t.val) (Ring.bk 16 t.val)).2; isplitl [Hf0_0_0_1_src]; · iexact Hf0_0_0_1_src
      iexact Hrf0_0_0_1
    iexists _; iexact HW

end Cert.KernelIdeal.Stream

end
-- ==== Proof.Stream.Frame.lean ====
module

public import proofs.«01_k».proof.Proof.Stream.RunC
public import Idealize.ShloMosaic.Lib.Claim

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The two stores at the first point cover the result's block. -/
theorem cover0_A_2 (c : Dev nD) (t : Fin cfg0.N) (arg1 : Memref sig .tc .vmem S2x512x2 .i32) (harg1 : arg1.IsWhole) (arg3 : Memref sig .tc .vmem S512x1024 .f32) (harg3 : arg3.IsWhole) (arg4 : Memref sig .tc .vmem S2x512x512 .f32) (harg4 : arg4.IsWhole) (hc0 : cond0_0 (grid0.coords t)) (hc1 : cond0_1 (grid0.coords t)) (hc2 : cond0_2 (grid0.coords t))
    (x0 : Vec F S2x512x2 .i32) (x1 : Vec F S512x1024 .f32) (fh0 : HbBuf0 (F := F) c hbM0_0) (y : S2x512x512.Idx) :
    ∃ pc ∈ (kernelRun0_A c t arg1 harg1 arg3 harg3 arg4 harg4 hc0 hc1 hc2 x0 x1 fh0).1, y ∈ pc.1.set :=
  View.cover_of_tiledL (kernelRun0_A c t arg1 harg1 arg3 harg3 arg4 harg4 hc0 hc1 hc2 x0 x1 fh0).1 S1x512x512.size (by sl_kernel_rfl) y

/-- What the body leaves in the result's buffer at the first point. -/
def out0_A_2 (c : Dev nD) (t : Fin cfg0.N) (arg1 : Memref sig .tc .vmem S2x512x2 .i32) (harg1 : arg1.IsWhole) (arg3 : Memref sig .tc .vmem S512x1024 .f32) (harg3 : arg3.IsWhole) (arg4 : Memref sig .tc .vmem S2x512x512 .f32) (harg4 : arg4.IsWhole) (hc0 : cond0_0 (grid0.coords t)) (hc1 : cond0_1 (grid0.coords t)) (hc2 : cond0_2 (grid0.coords t))
    (x0 : Vec F S2x512x2 .i32) (x1 : Vec F S512x1024 .f32) (fh0 : HbBuf0 (F := F) c hbM0_0) : Vec F S2x512x512 .f32 :=
  VO0_2.read (Elt F) (VO0_2.writes (Elt F) VO0_2.junk (kernelRun0_A c t arg1 harg1 arg3 harg3 arg4 harg4 hc0 hc1 hc2 x0 x1 fh0).1)

/-- The two stores at points 1 to 13 cover the result's block. -/
theorem cover0_B_2 (c : Dev nD) (t : Fin cfg0.N) (arg1 : Memref sig .tc .vmem S2x512x2 .i32) (harg1 : arg1.IsWhole) (arg3 : Memref sig .tc .vmem S512x1024 .f32) (harg3 : arg3.IsWhole) (arg4 : Memref sig .tc .vmem S2x512x512 .f32) (harg4 : arg4.IsWhole) (hc0 : ¬cond0_0 (grid0.coords t)) (hc1 : cond0_1 (grid0.coords t)) (hc2 : cond0_2 (grid0.coords t))
    (x0 : Vec F S2x512x2 .i32) (x1 : Vec F S512x1024 .f32) (fh0 : HbBuf0 (F := F) c hbM0_0) (y : S2x512x512.Idx) :
    ∃ pc ∈ (kernelRun0_B c t arg1 harg1 arg3 harg3 arg4 harg4 hc0 hc1 hc2 x0 x1 fh0).1, y ∈ pc.1.set :=
  View.cover_of_tiledL (kernelRun0_B c t arg1 harg1 arg3 harg3 arg4 harg4 hc0 hc1 hc2 x0 x1 fh0).1 S1x512x512.size (by sl_kernel_rfl) y

/-- What the body leaves in the result's buffer at points 1 to 13. -/
def out0_B_2 (c : Dev nD) (t : Fin cfg0.N) (arg1 : Memref sig .tc .vmem S2x512x2 .i32) (harg1 : arg1.IsWhole) (arg3 : Memref sig .tc .vmem S512x1024 .f32) (harg3 : arg3.IsWhole) (arg4 : Memref sig .tc .vmem S2x512x512 .f32) (harg4 : arg4.IsWhole) (hc0 : ¬cond0_0 (grid0.coords t)) (hc1 : cond0_1 (grid0.coords t)) (hc2 : cond0_2 (grid0.coords t))
    (x0 : Vec F S2x512x2 .i32) (x1 : Vec F S512x1024 .f32) (fh0 : HbBuf0 (F := F) c hbM0_0) : Vec F S2x512x512 .f32 :=
  VO0_2.read (Elt F) (VO0_2.writes (Elt F) VO0_2.junk (kernelRun0_B c t arg1 harg1 arg3 harg3 arg4 harg4 hc0 hc1 hc2 x0 x1 fh0).1)

/-- The two stores at the last two points cover the result's block. -/
theorem cover0_C_2 (c : Dev nD) (t : Fin cfg0.N) (arg1 : Memref sig .tc .vmem S2x512x2 .i32) (harg1 : arg1.IsWhole) (arg3 : Memref sig .tc .vmem S512x1024 .f32) (harg3 : arg3.IsWhole) (arg4 : Memref sig .tc .vmem S2x512x512 .f32) (harg4 : arg4.IsWhole) (hc0 : ¬cond0_0 (grid0.coords t)) (hc1 : ¬cond0_1 (grid0.coords t)) (hc2 : ¬cond0_2 (grid0.coords t))
    (x0 : Vec F S2x512x2 .i32) (x1 : Vec F S512x1024 .f32) (fh0 : HbBuf0 (F := F) c hbM0_0) (y : S2x512x512.Idx) :
    ∃ pc ∈ (kernelRun0_C c t arg1 harg1 arg3 harg3 arg4 harg4 hc0 hc1 hc2 x0 x1 fh0).1, y ∈ pc.1.set :=
  View.cover_of_tiledL (kernelRun0_C c t arg1 harg1 arg3 harg3 arg4 harg4 hc0 hc1 hc2 x0 x1 fh0).1 S1x512x512.size (by sl_kernel_rfl) y

/-- What the body leaves in the result's buffer at the last two points. -/
def out0_C_2 (c : Dev nD) (t : Fin cfg0.N) (arg1 : Memref sig .tc .vmem S2x512x2 .i32) (harg1 : arg1.IsWhole) (arg3 : Memref sig .tc .vmem S512x1024 .f32) (harg3 : arg3.IsWhole) (arg4 : Memref sig .tc .vmem S2x512x512 .f32) (harg4 : arg4.IsWhole) (hc0 : ¬cond0_0 (grid0.coords t)) (hc1 : ¬cond0_1 (grid0.coords t)) (hc2 : ¬cond0_2 (grid0.coords t))
    (x0 : Vec F S2x512x2 .i32) (x1 : Vec F S512x1024 .f32) (fh0 : HbBuf0 (F := F) c hbM0_0) : Vec F S2x512x512 .f32 :=
  VO0_2.read (Elt F) (VO0_2.writes (Elt F) VO0_2.junk (kernelRun0_C c t arg1 harg1 arg3 harg3 arg4 harg4 hc0 hc1 hc2 x0 x1 fh0).1)

/-! ## What the outputs hold after each point -/

/-- What the result's buffer holds after the body at point `n`: what the body's kind of point writes, from the blocks at that point. -/
def outsAt0 (c : Dev nD) : (n : ℕ) → n < cfg0.N → Vec F S2x512x512 .f32
  | 0, hn => out0_A_2 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) ((hcond0_1 ⟨0, hn⟩).mpr (by (try dsimp only); omega)) ((hcond0_2 ⟨0, hn⟩).mpr (by (try dsimp only); omega)) (iblk m c 0 ⟨0, hn⟩) (iblk m c 1 ⟨0, hn⟩) (V m c main_arg0)
  | n + 1, hn =>
    if h0 : (n + 1) % 16 = 0 then
      if h1 : (n + 1) < 14 then
        if h2 : (n + 1) < 14 then
          out0_A_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (V m c main_arg0)
        else
          False.elim (by have hN : n + 1 < 16 := lt_of_lt_of_eq hn (show cfg0.N = 16 from N_0); omega)
      else
        False.elim (by have hN : n + 1 < 16 := lt_of_lt_of_eq hn (show cfg0.N = 16 from N_0); omega)
    else
      if h1 : (n + 1) < 14 then
        if h2 : (n + 1) < 14 then
          out0_B_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (V m c main_arg0)
        else
          False.elim (by have hN : n + 1 < 16 := lt_of_lt_of_eq hn (show cfg0.N = 16 from N_0); omega)
      else
        if h2 : (n + 1) < 14 then
          False.elim (by have hN : n + 1 < 16 := lt_of_lt_of_eq hn (show cfg0.N = 16 from N_0); omega)
        else
          out0_C_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (V m c main_arg0)

/-- At the first point. -/
theorem outsAt0_A (c : Dev nD) (t : Fin cfg0.N) (h0 : t.val % 16 = 0) (h1 : t.val < 14) (h2 : t.val < 14) :
    outsAt0 m c t.val t.isLt = out0_A_2 c t (ms0_0 t) (hs0_0 t) (ms0_1 t) (hs0_1 t) (ms0_2 t) (hs0_2 t) ((hcond0_0 t).mpr h0) ((hcond0_1 t).mpr h1) ((hcond0_2 t).mpr h2) (iblk m c 0 t) (iblk m c 1 t) (V m c main_arg0) := by
  obtain ⟨n, hn⟩ := t
  cases n with
  | zero => exact rfl
  | succ n => exact (dif_pos h0).trans ((dif_pos h1).trans ((dif_pos h2).trans rfl))

/-- At points 1 to 13. -/
theorem outsAt0_B (c : Dev nD) (t : Fin cfg0.N) (h0 : ¬t.val % 16 = 0) (h1 : t.val < 14) (h2 : t.val < 14) :
    outsAt0 m c t.val t.isLt = out0_B_2 c t (ms0_0 t) (hs0_0 t) (ms0_1 t) (hs0_1 t) (ms0_2 t) (hs0_2 t) (fun h => h0 ((hcond0_0 t).mp h)) ((hcond0_1 t).mpr h1) ((hcond0_2 t).mpr h2) (iblk m c 0 t) (iblk m c 1 t) (V m c main_arg0) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- At the last two points. -/
theorem outsAt0_C (c : Dev nD) (t : Fin cfg0.N) (h0 : ¬t.val % 16 = 0) (h1 : ¬t.val < 14) (h2 : ¬t.val < 14) :
    outsAt0 m c t.val t.isLt = out0_C_2 c t (ms0_0 t) (hs0_0 t) (ms0_1 t) (hs0_1 t) (ms0_2 t) (hs0_2 t) (fun h => h0 ((hcond0_0 t).mp h)) (fun h => h1 ((hcond0_1 t).mp h)) (fun h => h2 ((hcond0_2 t).mp h)) (iblk m c 0 t) (iblk m c 1 t) (V m c main_arg0) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-! ## The pipeline's proof data -/

/-- What holds before point `k` beside the windows: the generator's register at some state, and the ring before its step `k`. -/
def PhiR (c : Dev nD) (k : ℕ) : sProp 𝕄 := iprop((∃ r, prngReg c r) ∗ (ringAt0_0 c (V m c main_arg0) k ∗ spareP0_0 c))

/-- The proof data of the grid on core `c`: the arrays as they are when it starts; after the body at point `t`, each input's buffer at its
block and the result's at `outsAt0`; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ t := PhiR m c t.val
  q _ := fullShare
  owed _ := 0

/-- The arrays of the proof data are those at the start. -/
theorem A_eq (c : Dev nD) (w : Fin cfg0.W) : (dats m 0 c).A w = V m c (Pipeline.arrRef spec0 w) := by
  dsimp only [dats]

/-- What holds at a point's start. -/
theorem PhiR_castSucc (c : Dev nD) (t : Fin cfg0.N) : (dats m 0 c).Φ t.castSucc = PhiR m c t.val := by
  dsimp only [dats]; simp only [Fin.coe_castSucc]
/-- What holds at a point's end. -/
theorem PhiR_succ (c : Dev nD) (t : Fin cfg0.N) : (dats m 0 c).Φ t.succ = PhiR m c (t.val + 1) := by
  dsimp only [dats]; simp only [Fin.val_succ]

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1200000 in
/-- The body at any point: by the kind of the point, its run takes the ring from one step to the next and leaves the result's buffer at
`outsAt0`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [after0_0, after0_1, after0_2]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 16 := N_0
  have hN : t.val < 16 := lt_of_lt_of_eq t.isLt (show cfg0.N = 16 from N_0)
  by_cases h0 : t.val % 16 = 0
  · by_cases h1 : t.val < 14
    · by_cases h2 : t.val < 14
      · rw [outsAt0_A m c t h0 h1 h2]
        unfold out0_A_2
        have hr0 := rstep0_0_A t ((hcond0_0 t).mpr h0) ((hcond0_1 t).mpr h1) ((hcond0_2 t).mpr h2)
        obtain ⟨hK00, hK10⟩ := hr0
        rw [if_pos hK00, if_neg (show ¬t.val + 1 = 0 by omega)]
        rw [Ring.At₀_eq3' _ _ _ t.val hK00 (by decide : 3 ≤ 16), Ring.At3_one' _ _ _ _ t.val hK00 (by decide : 3 ≤ 16)]
        iintro ⟨⟨Hg, ⟨⟨-, Hfr0_0_0, Hfr0_0_1, Hfr0_0_2⟩, HSp0_0⟩⟩, ⟨%W, -, HW⟩, ⟨%d0, H0⟩, ⟨%d1, H1⟩, ⟨%d2, H2⟩⟩
        iapply ((kernelRun0_A c t _ _ _ _ _ _ ((hcond0_0 t).mpr h0) ((hcond0_1 t).mpr h1) ((hcond0_2 t).mpr h2) (iblk m c 0 t) (iblk m c 1 t) (V m c main_arg0)).2 W _)
        isplitl [H0]; · iexact H0
        isplitl [H1]; · iexact H1
        isplitl [H2]; · iexists _; iexact H2
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, ⟨%e2, H2⟩, Hfa0_0', Hfb0_0', Hfc0_0', ⟨%W', HW'⟩⟩
        isplitl [Hg HSp0_0 Hfa0_0' Hfb0_0' Hfc0_0']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iexact HSp0_0
        isplitl [HW']
        · iexists W'; isplitr; · ipureintro; exact fun _ _ => Or.inl trivial
          iexact HW'
        isplitl [H0]; · iexact H0
        isplitl [H1]; · iexact H1
        unfold owns; iexists _; isplitr
        swap; · iexact H2
        ipureintro; exact View.read_writes_of_cover _ _ _ _ _ (cover0_A_2 c _ _ _ _ _ _ _ _ _ _ _ _ _)
      · exfalso; omega
    · exfalso; omega
  · by_cases h1 : t.val < 14
    · by_cases h2 : t.val < 14
      · rw [outsAt0_B m c t h0 h1 h2]
        unfold out0_B_2
        have hr0 := rstep0_0_B t (fun h => h0 ((hcond0_0 t).mp h)) ((hcond0_1 t).mpr h1) ((hcond0_2 t).mpr h2)
        obtain ⟨hK10, hKB0, hKs0⟩ := hr0
        rw [if_neg (show ¬t.val = 0 by omega), if_neg (show ¬t.val + 1 = 0 by omega)]
        rw [Ring.At3_here _ _ _ _ t.val hKB0, Ring.At3_next _ _ _ _ t.val hKB0, Ring.slotAt3_next0 _ _ _ t.val (by omega), Ring.slotAt3_next1 _ _ _ t.val hKB0]
        iintro ⟨⟨Hg, ⟨⟨-, Hfr0_0_0, Hfr0_0_1, Hfr0_0_2⟩, HSp0_0⟩⟩, ⟨%W, -, HW⟩, ⟨%d0, H0⟩, ⟨%d1, H1⟩, ⟨%d2, H2⟩⟩
        iapply ((kernelRun0_B c t _ _ _ _ _ _ (fun h => h0 ((hcond0_0 t).mp h)) ((hcond0_1 t).mpr h1) ((hcond0_2 t).mpr h2) (iblk m c 0 t) (iblk m c 1 t) (V m c main_arg0)).2 W _)
        isplitl [H0]; · iexact H0
        isplitl [H1]; · iexact H1
        isplitl [H2]; · iexists _; iexact H2
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, ⟨%e2, H2⟩, Hfa0_0', Hfb0_0', Hfc0_0', ⟨%W', HW'⟩⟩
        isplitl [Hg HSp0_0 Hfa0_0' Hfb0_0' Hfc0_0']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iexact HSp0_0
        isplitl [HW']
        · iexists W'; isplitr; · ipureintro; exact fun _ _ => Or.inl trivial
          iexact HW'
        isplitl [H0]; · iexact H0
        isplitl [H1]; · iexact H1
        unfold owns; iexists _; isplitr
        swap; · iexact H2
        ipureintro; exact View.read_writes_of_cover _ _ _ _ _ (cover0_B_2 c _ _ _ _ _ _ _ _ _ _ _ _ _)
      · exfalso; omega
    · by_cases h2 : t.val < 14
      · exfalso; omega
      · rw [outsAt0_C m c t h0 h1 h2]
        unfold out0_C_2
        have hr0 := rstep0_0_C t (fun h => h0 ((hcond0_0 t).mp h)) (fun h => h1 ((hcond0_1 t).mp h)) (fun h => h2 ((hcond0_2 t).mp h))
        obtain ⟨hK10, hKB0, hKlt0, hKs0⟩ := hr0
        rw [if_neg (show ¬t.val = 0 by omega), if_neg (show ¬t.val + 1 = 0 by omega)]
        rw [Ring.At3_here_tail _ _ _ _ t.val hKlt0, Ring.At3_next_tail _ _ _ _ t.val hKB0 hKlt0, Ring.slotAt3_tail_role _ _ _ t.val]
        iintro ⟨⟨Hg, ⟨⟨-, Hfr0_0_0, Hfr0_0_1, Hfr0_0_2⟩, HSp0_0⟩⟩, ⟨%W, -, HW⟩, ⟨%d0, H0⟩, ⟨%d1, H1⟩, ⟨%d2, H2⟩⟩
        iapply ((kernelRun0_C c t _ _ _ _ _ _ (fun h => h0 ((hcond0_0 t).mp h)) (fun h => h1 ((hcond0_1 t).mp h)) (fun h => h2 ((hcond0_2 t).mp h)) (iblk m c 0 t) (iblk m c 1 t) (V m c main_arg0)).2 W _)
        isplitl [H0]; · iexact H0
        isplitl [H1]; · iexact H1
        isplitl [H2]; · iexists _; iexact H2
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, ⟨%e2, H2⟩, Hfa0_0', Hfb0_0', Hfc0_0', ⟨%W', HW'⟩⟩
        isplitl [Hg HSp0_0 Hfa0_0' Hfb0_0' Hfc0_0']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          iexact HSp0_0
        isplitl [HW']
        · iexists W'; isplitr; · ipureintro; exact fun _ _ => Or.inl trivial
          iexact HW'
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _)

/-- The body that the grid calls at point `t`. -/
theorem defs₀_row (t : Fin cfg0.N) :
    defs₀ (F := F) .tc cfg0.body (cfg0.bodyArgs t (cfg0.slots t)) = bodyAt0 t := by
  unfold defs₀; rw [Defs.onTc_tc]

/-- The body meets what the grid asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the grid is what holds before the first point; -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨HR0_0, Hg, ⟨Hq0, Hq1, Hq2, Hq3, Hq4, Hq5⟩, Hh0⟩
  isplitl [Hg]; · iexact Hg
  iapply (ring0_0_in (F := F) m c)
  isplitl [HR0_0]; · iexact HR0_0
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  iexact Hh0
/-- and what holds after the last point is what the launch takes back. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 16 by rw [N_0]]
  iintro ⟨Hg, HR0_0⟩
  ihave HX0_0 := (ring0_0_out (F := F) m c) $$ HR0_0
  icases HX0_0 with ⟨HR0_0, ⟨Hq0, Hq1, Hq2, Hq3, Hq4, Hq5⟩, Hh0⟩
  isplitl [HR0_0]
  · iexact HR0_0
  isplitl [Hg]
  · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  iexact Hh0

/-! ## The launch and the frame -/

set_option backward.isDefEq.respectTransparency.types false in
/-- The launch: it ends, with every array as the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the launch ends, the arguments unchanged and every semaphore counter at zero, whatever the floats are. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Stream

end
-- ==== Proof.Value.Blocks.lean ====
module

public import proofs.«01_k».proof.Proof.Stream.Frame
public import Idealize.ShloMosaic.Lib.Pipeline.ValueKit
public import Idealize.ShloMosaic.Lib.Pointwise

@[expose] public section

set_option maxRecDepth 16384

noncomputable section

namespace Cert.KernelIdeal.Stream

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- One batch's result block from its rows `x`, the weights `w` and its edges `e`. -/
def batch (x : Vec F S512x1024 .f32) (w : Vec F S512x1024 .f32) (e : Vec F S1x512x2 .i32) : FVec F S512x512 .f32 :=
  k0_pay3 x w e

/-- Reading a landed part back through the whole scratch and dropping the unit axis gives what was copied in. -/
theorem landed_cast (r : ℕ) (inb : ∀ a, (![r, 0, 0] : Fin 3 → ℕ) a + S1x512x1024.size a ≤ S6x512x1024.size a)
    (off : Fin 3 → ℕ) (hoff : off = ![r, 0, 0]) (inb' : ∀ a, off a + (![1, 512, 1024] : Fin 3 → ℕ) a ≤ S6x512x1024.size a)
    (f : (View.whole cc0_scratch0).ty.Contents (Elt F)) (x : Vec F S512x1024 .f32) :
    k0_pay2 (View.readAt (Elt F) (View.whole cc0_scratch0) (Rect.unit (s := S6x512x1024) off ![1, 512, 1024] inb').toLoadRect
      (((scM0_0.slice (Rect.unit (s := S6x512x1024) ![r, 0, 0] S1x512x1024.size inb) (fun _ => rfl)).squeeze S512x1024 squeezes_S1x512x1024_S512x1024).view.writes (Elt F) f [⟨Rect.whole S512x1024, x⟩])) = x := by
  subst hoff
  refine (Memref.read_squeeze_slice (Val := Elt F) scM0_0 (Rect.unit (s := S6x512x1024) ![r, 0, 0] S1x512x1024.size inb) (fun _ => rfl) squeezes_S1x512x1024_S512x1024 shapeCasts_S1x512x1024_S512x1024 _).symm.trans ?_
  funext y
  have h := View.read_writes_cons_emb ((scM0_0.slice (Rect.unit (s := S6x512x1024) ![r, 0, 0] S1x512x1024.size inb) (fun _ => rfl)).squeeze S512x1024 squeezes_S1x512x1024_S512x1024).view f (Rect.whole S512x1024) x [] y
  rwa [Rect.emb_whole_apply] at h

theorem casts_src : S512x1x1024.ShapeCasts S512x1024 := by decide

/-- Block `b`'s copied rows, at an index of the argument. -/
theorem src0_read (c : Dev nD) (b : Fin 16) (W0 : HbBuf0 (F := F) c hbM0_0) (y : S512x1024.Idx) :
    (srcB0_0_0 b).view.read (Elt F) W0 y = W0 (ix3 (y 0) ⟨2 * b.val, by omega⟩ (y 1)) := by
  refine (congrFun (Memref.read_squeeze_slice (Val := Elt F) hbM0_0 (Rect.unit (s := S512x32x1024) ![0, 2 * b.val, 0] S512x1x1024.size (inb_src0_0_0 b)) (fun _ => rfl) squeezes_S512x1x1024_S512x1024 casts_src W0) y).trans ?_
  rw [View.readAt_eq_ld]
  pointwise
  rfl

theorem src1_read (c : Dev nD) (b : Fin 16) (W0 : HbBuf0 (F := F) c hbM0_0) (y : S512x1024.Idx) :
    (srcB0_0_1 b).view.read (Elt F) W0 y = W0 (ix3 (y 0) ⟨2 * b.val + 1, by omega⟩ (y 1)) := by
  refine (congrFun (Memref.read_squeeze_slice (Val := Elt F) hbM0_0 (Rect.unit (s := S512x32x1024) ![0, 2 * b.val + 1, 0] S512x1x1024.size (inb_src0_0_1 b)) (fun _ => rfl) squeezes_S512x1x1024_S512x1024 casts_src W0) y).trans ?_
  rw [View.readAt_eq_ld]
  pointwise
  rfl

theorem off_eq (t : Fin cfg0.N) : ∀ j : Fin 2, (![BitVec.toNat (Scalar.indexCast (Scalar.remsi (Scalar.addi (Scalar.muli (BitVec.ofNat 32 ↑(grid0.coords t 0)) 2#32) (BitVec.ofNat 32 j.val)) 6#32)), 0, 0] : Fin 3 → ℕ)
    = ![2 * (Ring.sl 3 t.val).val + j.val, 0, 0] :=
  (by decide +kernel : ∀ t : Fin grid0.N, ∀ j : Fin 2, (![BitVec.toNat (Scalar.indexCast (Scalar.remsi (Scalar.addi (Scalar.muli (BitVec.ofNat 32 ↑(grid0.coords t 0)) 2#32) (BitVec.ofNat 32 j.val)) 6#32)), 0, 0] : Fin 3 → ℕ)
    = ![2 * (Ring.sl 3 t.val).val + j.val, 0, 0]) t

theorem canon_rows (x1 x0 : Vec F S1x512x1024 .f32) (y1 y0 w : Vec F S512x1024 .f32) (e1 e0 : Vec F S1x512x2 .i32)
    (h1 : k0_pay2 x1 = y1) (h0 : k0_pay2 x0 = y0) :
    View.canon ([⟨Rect.unit ![1, 0, 0] ![1, 512, 512] inb_S2x512x512_S1x512x512_1_0_0, k0_pay1 (k0_pay5 x1 w) (k0_pay6 x1 w) (k0_pay8 e1) (k0_pay9 e1)⟩,
        ⟨Rect.unit ![0, 0, 0] ![1, 512, 512] inb_S2x512x512_S1x512x512_0_0_0, k0_pay4 (k0_pay3 (k0_pay2 x0) w e0)⟩] : List (View.Piece (Elt F) S2x512x512 .f32))
      = View.canon [⟨Rect.unit ![1, 0, 0] ![1, 512, 512] inb_S2x512x512_S1x512x512_1_0_0, k0_pay4 (batch y1 w e1)⟩,
        ⟨Rect.unit ![0, 0, 0] ![1, 512, 512] inb_S2x512x512_S1x512x512_0_0_0, k0_pay4 (batch y0 w e0)⟩] := by
  subst h1 h0
  rfl

/-- What a point leaves in the result window: its two batches, one in each row. -/
def rows (c : Dev nD) (t : Fin cfg0.N) : List (View.Piece (Elt F) S2x512x512 .f32) :=
  [⟨Rect.unit ![1, 0, 0] ![1, 512, 512] inb_S2x512x512_S1x512x512_1_0_0,
      k0_pay4 (batch ((srcB0_0_1 (Ring.bk 16 t.val)).view.read (Elt F) (V m c main_arg0)) (iblk m c 1 t)
        (View.ld (iblk m c 0 t) (Rect.unit ![1, 0, 0] ![1, 512, 2] inb_S2x512x2_S1x512x2_1_0_0)))⟩,
    ⟨Rect.unit ![0, 0, 0] ![1, 512, 512] inb_S2x512x512_S1x512x512_0_0_0,
      k0_pay4 (batch ((srcB0_0_0 (Ring.bk 16 t.val)).view.read (Elt F) (V m c main_arg0)) (iblk m c 1 t)
        (View.ld (iblk m c 0 t) (Rect.unit ![0, 0, 0] ![1, 512, 2] inb_S2x512x2_S1x512x2_0_0_0)))⟩]

theorem after_rows (c : Dev nD) (t : Fin cfg0.N) : outsAt0 m c t.val t.isLt = View.canon (rows m c t) := by
  have hN : t.val < 16 := lt_of_lt_of_eq t.isLt N_0
  have e1 := fun (f : (View.whole cc0_scratch0).ty.Contents (Elt F)) (x : Vec F S512x1024 .f32) =>
    landed_cast (F := F) _ (inb_win0_0 (Ring.sl 3 t.val) 1) _ (off_eq t 1) (off_eq t 1 ▸ inb_win0_0 (Ring.sl 3 t.val) 1) f x
  have e0 := fun (f : (View.whole cc0_scratch0).ty.Contents (Elt F)) (x : Vec F S512x1024 .f32) =>
    landed_cast (F := F) _ (inb_win0_0 (Ring.sl 3 t.val) 0) _ (off_eq t 0) (off_eq t 0 ▸ inb_win0_0 (Ring.sl 3 t.val) 0) f x
  by_cases h0 : t.val % 16 = 0
  · rw [outsAt0_A m c t h0 (by omega) (by omega)]
    frame_out
    exact canon_rows _ _ _ _ _ _ _ (e1 _ _) (e0 _ _)
  by_cases h1 : t.val < 14
  · rw [outsAt0_B m c t h0 h1 h1]
    frame_out
    exact canon_rows _ _ _ _ _ _ _ (e1 _ _) (e0 _ _)
  · rw [outsAt0_C m c t h0 h1 h1]
    frame_out
    exact canon_rows _ _ _ _ _ _ _ (e1 _ _) (e0 _ _)

/-- The result array: entry `(b, l, s)` is batch `b`'s block at `(l, s)`. -/
def result (x : S512x32x1024.Idx → Elt F .f32) (w : S512x1024.Idx → Elt F .f32) (e : S32x512x2.Idx → Elt F .i32) :
    S32x512x512.Idx → Elt F .f32 := fun i =>
  batch (fun y => x (ix3 (y 0) (i 0) (y 1))) w (fun y => e (ix3 (i 0) (y 1) (y 2))) (ix2 (i 1) (i 2))

theorem index2 : ∀ t : Fin cfg0.N, win0_2.index t = ![t.val, 0, 0] :=
  (by decide +kernel : ∀ t : Fin grid0.N, win0_2.index t = ![t.val, 0, 0])
theorem index1 : ∀ t : Fin cfg0.N, win0_1.index t = ![0, 0] :=
  (by decide +kernel : ∀ t : Fin grid0.N, win0_1.index t = ![0, 0])
theorem index0 : ∀ t : Fin cfg0.N, win0_0.index t = ![t.val, 0, 0] :=
  (by decide +kernel : ∀ t : Fin grid0.N, win0_0.index t = ![t.val, 0, 0])

theorem point_lt (t : Fin cfg0.N) : t.val < 16 := lt_of_lt_of_eq t.isLt N_0

/-- Row `j` of point `t`'s result block against the result array. -/
theorem row_eq (c : Dev nD) (t : Fin cfg0.N) (j : ℕ) (hj : j < 2) (off3 : Fin 3 → ℕ) (hoff : off3 = ![j, 0, 0])
    (inb : ∀ a, off3 a + (![1, 512, 512] : Fin 3 → ℕ) a ≤ S2x512x512.size a) (inbe : ∀ a, off3 a + (![1, 512, 2] : Fin 3 → ℕ) a ≤ S2x512x2.size a)
    (x : Vec F S512x1024 .f32) (hx : ∀ y, x y = V m c main_arg0 (ix3 (y 0) ⟨2 * t.val + j, by have := point_lt t; omega⟩ (y 1)))
    (y : S1x512x512.Idx) :
    k0_pay4 (batch x (iblk m c 1 t) (View.ld (iblk m c 0 t) (Rect.unit off3 ![1, 512, 2] inbe))) y
      = result (V m c main_arg0) (V m c main_arg3) (V m c main_arg2) ((win0_2.blk t).view.emb ((Rect.unit (s := S2x512x512) off3 ![1, 512, 512] inb).emb y)) := by
  subst hoff
  have ht := point_lt t
  have hi : (win0_2.blk t).view.emb ((Rect.unit (s := S2x512x512) ![j, 0, 0] ![1, 512, 512] inb).emb y)
      = ix3 ⟨2 * t.val + j, by omega⟩ (y 1) (y 2) := by
    blk_ext [index2 t]
  have hw : iblk m c 1 t = V m c main_arg3 := by
    funext y; blk_ext [iblk, index1 t]
  have he : View.ld (iblk m c 0 t) (Rect.unit (s := S2x512x2) ![j, 0, 0] ![1, 512, 2] inbe)
      = fun y => V m c main_arg2 (ix3 ⟨2 * t.val + j, by omega⟩ (y 1) (y 2)) := by
    funext y
    show V m c main_arg2 (((cfg0.win 0).blk t).view.emb ((Rect.unit (s := S2x512x2) ![j, 0, 0] ![1, 512, 2] inbe).emb y)) = _
    blk_ext [index0 t]
  rw [hi, hw, he, show x = _ from funext hx]
  unfold result
  pointwise [k0_pay4]
  rfl

theorem final (c : Dev nD) : (dats m 0 c).arrAt 2 cfg0.N = result (V m c main_arg0) (V m c main_arg3) (V m c main_arg2) := by
  refine (dats m 0 c).arrAt_eq_of_covers 2 _ (by decide +kernel) fun t hf y => ?_
  blk_simp
  rw [after0_2, after_rows]
  have hb : (Ring.bk 16 t.val).val = t.val := Nat.mod_eq_of_lt (point_lt t)
  refine View.canon_apply_of_pieces (fun y => result (V m c main_arg0) (V m c main_arg3) (V m c main_arg2) ((win0_2.blk t).view.emb y)) (rows m c t) ?_ y ?_
  · intro p hp
    simp only [rows, List.mem_cons, List.not_mem_nil, or_false] at hp
    rcases hp with rfl | rfl
    · exact row_eq m c t 1 (by omega) _ rfl inb_S2x512x512_S1x512x512_1_0_0 _ _ fun y => (src1_read c _ _ y).trans (by simp only [hb])
    · exact row_eq m c t 0 (by omega) _ rfl inb_S2x512x512_S1x512x512_0_0_0 _ _ fun y => (src0_read c _ _ y).trans (by simp only [hb]; rfl)
  · exact View.cover_of_tiledL (rows m c t) S1x512x512.size (by sl_kernel_rfl) y

/-- The run leaves the result array holding `result` of the arguments and the arguments as they were. -/
theorem run_result : θ_run defs (onTc (τ := τ) (main (F := F))) ⟨m, fun _ => 0, ρ⟩ fun r => ∀ c : Dev nD,
      r.2.mem ((c : Thread nD τ).loc main_v0) = result (m ((c : Thread nD τ).loc main_arg0)) (m ((c : Thread nD τ).loc main_arg3)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩)
    (run_main m ρ)

end Cert.KernelIdeal.Stream
end
-- ==== Proof.Value.Equation.lean ====
module

public import Idealize.ShloMosaic.Lib.Pointwise
public import Mathlib.Analysis.SpecialFunctions.Exp

@[expose] public section

noncomputable section

namespace Cert.Equation

open Idealize.ShloMosaic

/-! ## The equation over the reals

A row of scores has weights `w`, their exponentials: not negative, and with a positive sum `Z`. -/

section Real
variable {w : Fin 512 → ℝ} (hw : ∀ k, 0 ≤ w k) (hZ : 0 < ∑ k, w k) (P : Fin 512 → Prop) [DecidablePred P]

/-- The share of the weight that falls on edges. -/
def share (w : Fin 512 → ℝ) (P : Fin 512 → Prop) [DecidablePred P] : ℝ := (∑ k, (if P k then w k else 0)) / ∑ k, w k

include hw hZ in
/-- The share is not negative. -/
theorem share_nonneg : 0 ≤ share w P :=
  div_nonneg (Finset.sum_nonneg fun k _ => by split <;> first | exact hw k | exact le_rfl) hZ.le

include hw hZ in
/-- The share is at most one. -/
theorem share_le : share w P ≤ 1 :=
  (div_le_one hZ).2 (Finset.sum_le_sum fun k _ => by split <;> first | exact le_rfl | exact hw k)

include hw hZ in
/-- The number that a row is divided by is positive. -/
theorem denom_pos {ε : ℝ} (hε : 0 < ε) : 0 < share w P + ε * (1 - share w P) + ε := by
  have h0 := share_nonneg hw hZ P
  have := mul_nonneg hε.le (sub_nonneg.2 (share_le hw hZ P))
  linarith

/-- A common factor of the weights cancels. -/
theorem scaled_share {c : ℝ} (hc : c ≠ 0) (s : Fin 512) : w s * c / (∑ k, w k * c) = w s / ∑ k, w k := by
  rw [← Finset.sum_mul, mul_div_mul_right _ _ hc]

include hZ in
/-- The weights under the mask (1 on an edge, `ε` off it) sum to the edges' share and `ε` times the rest. -/
theorem masked_sum (ε : ℝ) :
    ∑ k, w k / (∑ j, w j) * (if P k then 1 else ε) = share w P + ε * (1 - share w P) := by
  have hk : ∀ k, w k / (∑ j, w j) * (if P k then 1 else ε)
      = (1 - ε) * ((if P k then w k else 0) / ∑ j, w j) + ε * (w k / ∑ j, w j) := by
    intro k
    split <;> ring
  rw [Finset.sum_congr rfl fun k _ => hk k, Finset.sum_add_distrib, ← Finset.mul_sum, ← Finset.mul_sum, ← Finset.sum_div, ← Finset.sum_div,
    div_self hZ.ne']
  unfold share
  ring

include hw hZ in
/-- The kernel's entry from the weights is the reference's from the weights times any factor. -/
theorem real_equation {c ε : ℝ} (hc : c ≠ 0) (hε : 0 < ε) (s : Fin 512) :
    (if P s then w s else 0) * (1 / ((∑ k, w k) * (share w P + ε * (1 - share w P) + ε)))
      = w s * c / (∑ k, w k * c) * (if P s then 1 else ε)
        / ((∑ k, w k * c / (∑ j, w j * c) * (if P k then 1 else ε)) + ε) * (if P s then 1 else 0) := by
  have hZ' := hZ.ne'
  have hD := (denom_pos hw hZ P hε).ne'
  simp only [scaled_share hc]
  rw [masked_sum hZ]
  split
  · field_simp
  · simp

end Real

/-! ## The same over the extended reals -/

/-- A quotient of reals, the divisor not zero. -/
theorem div_coe_coe (a : ℝ) {b : ℝ} (h : b ≠ 0) : Ideal.div (a : EReal) (b : EReal) = ((a / b : ℝ) : EReal) := by
  rw [Ideal.div_coe h, ← EReal.coe_mul, mul_one_div]

/-- A sum of reals. -/
theorem sum_coe {n : ℕ} (f : Fin n → ℝ) : ∑ k, (f k : EReal) = ((∑ k, f k : ℝ) : EReal) := by
  induction (Finset.univ : Finset (Fin n)) using Finset.cons_induction with
  | empty => simp
  | cons a s h ih => rw [Finset.sum_cons, Finset.sum_cons, ih, EReal.coe_add]

/-- A choice between reals. -/
theorem ite_coe (p : Prop) [Decidable p] (a b : ℝ) : (if p then (a : EReal) else (b : EReal)) = ((if p then a else b : ℝ) : EReal) := by
  split <;> rfl

/-- An exponential is not negative. -/
theorem exp_nonneg (x : EReal) : 0 ≤ Ideal.exp x := by
  induction x with
  | bot => exact le_rfl
  | coe r => exact EReal.coe_nonneg.2 (Real.exp_pos r).le
  | top => exact le_top

/-- The exponential of a score below plus infinity is a real `a`, and a real `M` taken off the score multiplies it by `exp (-M)`. -/
theorem exp_shift (x : EReal) (hx : x ≠ ⊤) (M : ℝ) :
    ∃ a : ℝ, Ideal.exp x = (a : EReal) ∧ Ideal.exp (x - (M : EReal)) = ((a * Real.exp (-M) : ℝ) : EReal) := by
  induction x with
  | bot => exact ⟨0, rfl, by simp [EReal.bot_sub]⟩
  | coe r => exact ⟨Real.exp r, rfl, by rw [← EReal.coe_sub, Ideal.exp_coe, ← Real.exp_add, sub_eq_add_neg]⟩
  | top => exact absurd rfl hx

section Ereal
variable (S : Fin 512 → EReal) (P : Fin 512 → Prop) [DecidablePred P]

/-- One entry as the kernel computes it, from the scores `S` of a label and the places `P` of its edges. -/
def kernelForm (S : Fin 512 → EReal) (P : Fin 512 → Prop) [DecidablePred P] (ε : EReal) (s : Fin 512) : EReal :=
  (if P s then Ideal.exp (S s) else 0) * Ideal.div 1 ((∑ k, Ideal.exp (S k)) *
    (Ideal.div (∑ k, if P k then Ideal.exp (S k) else 0) (∑ k, Ideal.exp (S k))
      + ε * (1 - Ideal.div (∑ k, if P k then Ideal.exp (S k) else 0) (∑ k, Ideal.exp (S k))) + ε))

/-- One entry as the reference computes it; `M` is the score that is subtracted before the exponential. -/
def referenceForm (S : Fin 512 → EReal) (P : Fin 512 → Prop) [DecidablePred P] (M ε : EReal) (s : Fin 512) : EReal :=
  Ideal.div (Ideal.div (Ideal.exp (S s - M)) (∑ k, Ideal.exp (S k - M)) * (if P s then 1 else ε))
    ((∑ k, Ideal.div (Ideal.exp (S k - M)) (∑ j, Ideal.exp (S j - M)) * (if P k then 1 else ε)) + ε) * (if P s then 1 else 0)

/-- Where every exponential of the reference vanishes, so does its entry. -/
theorem referenceForm_zero (M : EReal) (ε : ℝ) (hε : 0 < ε) (h : ∀ k, Ideal.exp (S k - M) = 0) (s : Fin 512) :
    referenceForm S P M ε s = 0 := by
  have hq : ∀ k, Ideal.div 0 0 * (if P k then 1 else (ε : EReal)) = ⊥ := by
    intro k
    have h0 : Ideal.div 0 0 = ⊥ := by simp [Ideal.div]
    rw [h0]
    split
    · exact mul_one _
    · exact EReal.bot_mul_coe_of_pos hε
  have hs : ∑ _k : Fin 512, (⊥ : EReal) = ⊥ := by
    rw [Fin.sum_univ_succ, EReal.bot_add]
  unfold referenceForm
  simp only [h, Finset.sum_const_zero, hq, hs, EReal.bot_add]
  simp [Ideal.div]

/-- A score of plus infinity makes the kernel's row vanish. -/
theorem kernelForm_top (ε : ℝ) (hε : 0 < ε) (j : Fin 512) (hj : S j = ⊤) (s : Fin 512) : kernelForm S P ε s = 0 := by
  have hZ : ∑ k, Ideal.exp (S k) = ⊤ := by
    refine top_le_iff.1 (le_trans (le_of_eq ?_) (Finset.single_le_sum (fun k _ => exp_nonneg (S k)) (Finset.mem_univ j)))
    rw [hj, Ideal.exp_top]
  have hd : ∀ x, Ideal.div x ⊤ = 0 := fun x => by simp [Ideal.div]
  unfold kernelForm
  rw [hZ, hd, sub_zero, mul_one, zero_add, ← EReal.coe_add, EReal.top_mul_coe_of_pos (add_pos hε hε), hd, mul_zero]

/-- Scores that are all minus infinity make the kernel's row vanish. -/
theorem kernelForm_bot (ε : EReal) (h : ∀ k, S k = ⊥) (s : Fin 512) : kernelForm S P ε s = 0 := by
  unfold kernelForm
  simp only [h, Ideal.exp_bot, ite_self, zero_mul]

/-- Scores below plus infinity, one of them a real: the kernel's entry is the reference's, whatever real `M` is taken off. -/
theorem equation_real (M ε : ℝ) (hε : 0 < ε) (hS : ∀ k, S k ≠ ⊤) (j : Fin 512) (hj : S j ≠ ⊥) (s : Fin 512) :
    kernelForm S P ε s = referenceForm S P M ε s := by
  choose w he hs using fun k => exp_shift (S k) (hS k) M
  have hw : ∀ k, 0 ≤ w k := fun k => EReal.coe_nonneg.1 ((exp_nonneg (S k)).trans_eq (he k))
  have hwj : 0 < w j := by
    obtain ⟨r, hr⟩ : ∃ r : ℝ, S j = (r : EReal) := ⟨_, (EReal.coe_toReal (hS j) hj).symm⟩
    have h := he j
    rw [hr, Ideal.exp_coe, EReal.coe_eq_coe_iff] at h
    exact h ▸ Real.exp_pos r
  have hZ : 0 < ∑ k, w k := hwj.trans_le (Finset.single_le_sum (fun k _ => hw k) (Finset.mem_univ j))
  have hc : Real.exp (-M) ≠ 0 := Real.exp_ne_zero _
  have hD := (denom_pos hw hZ P hε).ne'
  have hZc : ∑ k, w k * Real.exp (-M) ≠ 0 := by
    rw [← Finset.sum_mul]
    exact mul_ne_zero hZ.ne' hc
  have hDc : (∑ k, w k * Real.exp (-M) / (∑ j, w j * Real.exp (-M)) * (if P k then 1 else ε)) + ε ≠ 0 := by
    simp only [scaled_share hc]
    rw [masked_sum hZ]
    exact hD
  unfold kernelForm referenceForm
  rw [← EReal.coe_one, ← EReal.coe_zero]
  simp only [he, hs, ite_coe, sum_coe, div_coe_coe _ hZ.ne', div_coe_coe _ hZc, ← EReal.coe_sub, ← EReal.coe_mul, ← EReal.coe_add]
  rw [show (∑ k, if P k then w k else 0) / ∑ k, w k = share w P from rfl, div_coe_coe _ (mul_ne_zero hZ.ne' hD), div_coe_coe _ hDc, ← EReal.coe_mul, ← EReal.coe_mul]
  exact congrArg _ (real_equation hw hZ P hc hε s)

/-- The greatest of the scores, taken from minus infinity, is one of them, and none is above it. -/
theorem greatest : ∃ j, Finset.univ.fold max ⊥ S = S j ∧ ∀ k, S k ≤ S j := by
  obtain ⟨j, _, h⟩ := Finset.exists_mem_eq_sup Finset.univ ⟨(0 : Fin 512), Finset.mem_univ _⟩ S
  exact ⟨j, h, fun k => (Finset.le_sup (f := S) (Finset.mem_univ k)).trans_eq h⟩

/-- The kernel's entry is the reference's, which takes the greatest score off first. -/
theorem equation (ε : ℝ) (hε : 0 < ε) (s : Fin 512) :
    kernelForm S P ε s = referenceForm S P (Finset.univ.fold max ⊥ S) ε s := by
  obtain ⟨j, hj, hle⟩ := greatest S
  rw [hj]
  induction hM : S j with
  | bot =>
    have h : ∀ k, S k = ⊥ := fun k => le_bot_iff.1 (hM ▸ hle k)
    rw [kernelForm_bot S P ε h, referenceForm_zero S P ⊥ ε hε fun k => by rw [h, EReal.bot_sub, Ideal.exp_bot]]
  | coe M =>
    exact equation_real S P M ε hε (fun k => ((hle k).trans_lt (hM ▸ EReal.coe_lt_top M)).ne) j (hM ▸ EReal.coe_ne_bot M) s
  | top =>
    rw [kernelForm_top S P ε hε j hM, referenceForm_zero S P ⊤ ε hε fun k => by rw [EReal.sub_top, Ideal.exp_bot]]

end Ereal

/-- The mask's value off an edge, the number that the programs write as `1e-10`, is a positive real. -/
theorem eps_real : ∃ ε : ℝ, 0 < ε ∧ Ideal.ofBits .f32 0x2EDBE6FF#32 = (ε : EReal) := by
  refine ⟨_, ?_, by simp [Ideal.ofBits, Ideal.ieee]; rfl⟩
  positivity

/-- The edges `e0 → e1` of one batch name the place `(l, s)`, each end cut at 511. -/
def Touched (e0 e1 : Fin 512 → BitVec 32) (l s : Fin 512) : Prop :=
  ∃ k, BitVec.ofNat 32 l.val = IntOp.minsi (e0 k) 511#32 ∧ BitVec.ofNat 32 s.val = IntOp.minsi (e1 k) 511#32

/-- Being marked can be decided. -/
instance (e0 e1 : Fin 512 → BitVec 32) (l : Fin 512) : DecidablePred (Touched e0 e1 l) := fun _ => Classical.propDecidable _

end Cert.Equation
end
-- ==== Proof.Value.Batch.lean ====
module

public import proofs.«01_k».proof.Proof.Value.Blocks
public import proofs.«01_k».proof.Proof.Value.Equation
public import Idealize.ShloMosaic.Lib.Pointwise

@[expose] public section

set_option maxRecDepth 16384

noncomputable section

namespace Cert.KernelIdeal.Stream

open Cert.KernelIdeal Cert.KernelIdeal.Gen Idealize.ShloMosaic Idealize.ShloMosaic.TcCoe Idealize.SL.Sem
open Cert.Equation

/-- A compared pair as a number: one where they are equal, zero elsewhere. -/
theorem eq_number (a b : BitVec 32) :
    FloatOps.sitofp (F := Ideal) FTy.f32 (BitVec.setWidth 32 (IntOp.cmpi CmpIPredicate.eq a b)) = ((if a = b then 1 else 0 : ℝ) : EReal) := by
  by_cases h : a = b
  · subst h
    simp [IntOp.cmpi, FloatOps.sitofp]
  · have hb : (a == b) = false := beq_eq_false_iff_ne.2 h
    simp [IntOp.cmpi, h, hb, FloatOps.sitofp]

/-- The count of the edges at a place is positive exactly when some edge is there. -/
theorem count_pos (a c : BitVec 32) (b d : Fin 512 → BitVec 32) :
    (0 < ∑ k, (FloatOps.sitofp (F := Ideal) FTy.f32 (BitVec.setWidth 32 (IntOp.cmpi CmpIPredicate.eq a (b k)))
        * FloatOps.sitofp (F := Ideal) FTy.f32 (BitVec.setWidth 32 (IntOp.cmpi CmpIPredicate.eq c (d k))) : EReal)) ↔ ∃ k, a = b k ∧ c = d k := by
  have hk : ∀ k, (FloatOps.sitofp (F := Ideal) FTy.f32 (BitVec.setWidth 32 (IntOp.cmpi CmpIPredicate.eq a (b k)))
        * FloatOps.sitofp (F := Ideal) FTy.f32 (BitVec.setWidth 32 (IntOp.cmpi CmpIPredicate.eq c (d k))) : EReal)
      = ((if a = b k ∧ c = d k then 1 else 0 : ℝ) : EReal) := by
    intro k
    rw [eq_number, eq_number, ← EReal.coe_mul]
    by_cases h1 : a = b k <;> by_cases h2 : c = d k <;> simp [h1, h2]
  rw [Finset.sum_congr rfl fun k _ => hk k, sum_coe, ← EReal.coe_zero, EReal.coe_lt_coe_iff, Finset.sum_boole, Nat.cast_pos, Finset.card_pos]
  constructor
  · rintro ⟨k, hk⟩
    exact ⟨k, (Finset.mem_filter.1 hk).2⟩
  · rintro ⟨k, hk⟩
    exact ⟨k, Finset.mem_filter.2 ⟨Finset.mem_univ _, hk⟩⟩

/-- One batch of the kernel at a place: the kernel's form of its scores and of its edges. -/
theorem batch_apply (x w : Vec Ideal S512x1024 .f32) (e : Vec Ideal S1x512x2 .i32) (l s : Fin 512) :
    batch (F := Ideal) x w e (ix2 l s) = kernelForm (fun k => ∑ d, (w (ix2 l d) * x (ix2 k d) : EReal))
      (Touched (fun k => e (ix3 0 k 0)) (fun k => e (ix3 0 k 1)) l) (Ideal.ofBits .f32 0x2EDBE6FF#32) s := by
  pointwise [batch, k0_pay3]
  simp only [count_pos]
  unfold kernelForm Touched
  congr! <;> funext a b <;> congr

end Cert.KernelIdeal.Stream
end
-- ==== Proof.Value.Ref.lean ====
module

public import proofs.«01_k».proof.Proof.Gen.ReferenceIdeal.Run
public import proofs.«01_k».proof.Proof.Value.Equation
public import Idealize.ShloMosaic.Lib.Pointwise
public import Idealize.ShloMosaic.Lib.Routing.OpsSet
public import Idealize.ShloMosaic.Lib.Tactic.WordOmega

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Equation

/-- The scores: each memory row against each row of the weight. -/
def scores (x : FVec Ideal S512x32x1024 .f32) (w : FVec Ideal S512x1024 .f32) : FVec Ideal S512x32x512 .f32 :=
  Host.dotGeneral dot_S512x32x1024_S512x1024_S512x32x512_2_1_01_0_n_n none x w

/-- The greatest score over the memory rows, from minus infinity. -/
def top (d : FVec Ideal S512x32x512 .f32) : FVec Ideal S32x512 .f32 :=
  maximumf (broadcastInDim S32x512 ![] bcast_S_S32x512 (constant S_ .f32 0xFF800000#32))
    (Host.reduce FloatOps.maximumf d (constant S_ .f32 0xFF800000#32) reducesTo_S512x32x512_S32x512_d0 h_S_)

/-- One row per pair of a batch and a weight row, repeated over the memory rows. -/
def spread (v : FVec Ideal S32x512 .f32) : FVec Ideal S512x32x512 .f32 :=
  broadcastInDim S512x32x512 ![0, 1, 2] bcast_S1x32x512_S512x32x512_0_1_2 (broadcastInDim S1x32x512 ![1, 2] bcast_S32x512_S1x32x512_1_2 v)

/-- The softmax of the scores over the memory rows, the batch first. -/
def alpha (d : FVec Ideal S512x32x512 .f32) : FVec Ideal S32x512x512 .f32 :=
  transpose S32x512x512 [1, 2, 0]
    (Host.divf (Host.exp (subf d (spread (top d))))
      (spread (Host.reduceAdd (Host.exp (subf d (spread (top d)))) (constant S_ .f32 0x00000000#32) reducesTo_S512x32x512_S32x512_d0 h_S_)))
    transposes_S512x32x512_S32x512x512_1_2_0

/-- A word for every edge, repeated. -/
def word (n : BitVec 32) : IVec S16384 32 := broadcastInDim S16384 ![] bcast_S_S16384 (constantI S_ 32 n)

/-- One column of the places: a negative word counts from the end of an axis of `n`. -/
def wrapped (n : BitVec 32) (v : IVec S16384 32) : IVec S16384x1 32 :=
  broadcastInDim S16384x1 ![0] bcast_S16384_S16384x1_0 (select (cmpi .slt v (word 0#32)) (addi v (word n)) v)

/-- An edge's end, 511 where it is 512 or more. -/
def cut (v : IVec S16384 32) : IVec S16384 32 := select (cmpi .sge v (word 512#32)) (word (id 511#32)) v

/-- The batch of every edge. -/
def owner : IVec S16384 32 := shapeCast _ (broadcastInDim S32x512 ![0] bcast_S32_S32x512_0 (iotaInDim S32 32 0)) shapeCasts_S32x512_S16384

/-- The first end of every edge. -/
def head (e : IVec S32x512x2 32) : IVec S16384 32 :=
  shapeCast _ (shapeCast _ (extractStridedSlice S32x512x1 ![0, 0, 0] e slices_S32x512x2_S32x512x1_0_0_0) shapeCasts_S32x512x1_S32x512) shapeCasts_S32x512_S16384

/-- The second end of every edge. -/
def tail (e : IVec S32x512x2 32) : IVec S16384 32 :=
  shapeCast _ (shapeCast _ (extractStridedSlice S32x512x1 ![0, 0, 1] e slices_S32x512x2_S32x512x1_0_0_1) shapeCasts_S32x512x1_S32x512) shapeCasts_S32x512_S16384

/-- The place each edge names: its batch and its two ends. -/
def places (e : IVec S32x512x2 32) : IVec S16384x3 32 :=
  concatenate S16384x3 1 [⟨S16384x1, wrapped 32#32 owner⟩, ⟨S16384x1, wrapped 512#32 (cut (head e))⟩, ⟨S16384x1, wrapped 512#32 (cut (tail e))⟩]
    concatenates_S16384x1_S16384x1_S16384x1_S16384x3_d1

/-- An array with a one at every place an edge names. -/
def marked (e : IVec S32x512x2 32) (z : FVec Ideal S32x512x512 .f32) : FVec Ideal S32x512x512 .f32 :=
  Host.scatter scatter_S32x512x512_S16384x3_S16384_n_012_012_1 (fun _ b => b) z (places e)
    (broadcastInDim S16384 ![] bcast_S_S16384 (constant S_ .f32 0x3F800000#32))

/-- The small number everywhere. -/
def small : FVec Ideal S32x512x512 .f32 := broadcastInDim S32x512x512 ![] bcast_S_S32x512x512 (constant S_ .f32 0x2EDBE6FF#32)

/-- The softmax weighed by the edges. -/
def weighed (x : FVec Ideal S512x32x1024 .f32) (w : FVec Ideal S512x1024 .f32) (e : IVec S32x512x2 32) : FVec Ideal S32x512x512 .f32 :=
  mulf (alpha (scores x w)) (marked e (mulf (broadcastInDim S32x512x512 ![] bcast_S_S32x512x512 (constant S_ .f32 0x3F800000#32)) small))

/-- The reference's result from its arguments. -/
def refTerm (x : FVec Ideal S512x32x1024 .f32) (w : FVec Ideal S512x1024 .f32) (e : IVec S32x512x2 32) : FVec Ideal S32x512x512 .f32 :=
  mulf (Host.divf (weighed x w e)
      (broadcastInDim S32x512x512 ![0, 1, 2] bcast_S32x512x1_S32x512x512_0_1_2
        (addf (broadcastInDim S32x512x1 ![0, 1] bcast_S32x512_S32x512x1_0_1
          (Host.reduceAdd (weighed x w e) (constant S_ .f32 0x00000000#32) reducesTo_S32x512x512_S32x512_d2 h_S_))
          (broadcastInDim S32x512x1 ![] bcast_S_S32x512x1 (constant S_ .f32 0x2EDBE6FF#32)))))
    (marked e (broadcastInDim S32x512x512 ![] bcast_S_S32x512x512 (constant S_ .f32 0x00000000#32)))

/-- What the reference leaves in its result is `refTerm` of its arguments. -/
theorem res_eq (m : (ℓ : Loc nD τ sig) → Buf (Elt Ideal) ℓ) (c : Dev nD) :
    res_main_v81 (F := Ideal) m c = refTerm (m ((c.tc : Thread nD τ).loc main_arg0)) (m ((c.tc : Thread nD τ).loc main_arg3)) (m ((c.tc : Thread nD τ).loc main_arg2)) := by
  unfold res_main_v81
  rfl

/-- A score is a sum of products over the shared axis. -/
theorem scores_apply (x : FVec Ideal S512x32x1024 .f32) (w : FVec Ideal S512x1024 .f32) (s : Fin 512) (b : Fin 32) (l : Fin 512) :
    scores x w (ix3 s b l) = ∑ d, (x (ix3 s b d) * w (ix2 l d) : EReal) := by
  pointwise [scores]

/-- The greater of two arrays, at a place. -/
theorem greater_apply {t : Shape} (a b : FVec Ideal t .f32) (i : t.Idx) : maximumf a b i = max (a i) (b i : EReal) := rfl

/-- The greatest score of a batch and a weight row is the greatest of its scores. -/
theorem top_apply (d : FVec Ideal S512x32x512 .f32) (b : Fin 32) (l : Fin 512) :
    top d (ix2 b l) = Finset.univ.fold max ⊥ (fun k => (d (ix3 k b l) : EReal)) := by
  have hz : Ideal.ofBits .f32 0xFF800000#32 = ⊥ := by simp [Ideal.ofBits, Ideal.ieee]
  have hfold : Host.reduce FloatOps.maximumf d (constant (F := Ideal) S_ .f32 0xFF800000#32) reducesTo_S512x32x512_S32x512_d0 h_S_ (ix2 b l)
      = Finset.univ.fold max ⊥ (fun k => (d (ix3 k b l) : EReal)) := by
    rw [Host.reduce_eq_fold]
    refine (Shape.ReducesTo.fold_fiber_r3_a0 reducesTo_S512x32x512_S32x512_d0 (ix2 b l) _ _ d).trans ?_
    rw [← hz]
    rfl
  refine (greater_apply _ _ _).trans ?_
  rw [hfold]
  exact (congrArg (max · (Finset.univ.fold max ⊥ (fun k => (d (ix3 k b l) : EReal)))) hz).trans (max_bot_left _)

/-- The softmax at a place. -/
theorem alpha_apply (d : FVec Ideal S512x32x512 .f32) (b : Fin 32) (l s : Fin 512) :
    alpha d (ix3 b l s) = Ideal.div (Ideal.exp (d (ix3 s b l) - top d (ix2 b l))) (∑ k, Ideal.exp (d (ix3 k b l) - top d (ix2 b l))) := by
  pointwise [alpha, spread]

/-- An end that is not negative, cut and then wrapped, is the end cut at 511. -/
theorem cut_word (v : BitVec 32) (h : 0 ≤ v.toInt) :
    Scalar.select (IntOp.cmpi .slt (Scalar.select (IntOp.cmpi .sge v 512#32) 511#32 v) 0#32)
      (IntOp.addi (Scalar.select (IntOp.cmpi .sge v 512#32) 511#32 v) 512#32) (Scalar.select (IntOp.cmpi .sge v 512#32) 511#32 v) = IntOp.minsi v 511#32 := by
  have hv : v.toInt = (v.toNat : Int) := BitVec.toInt_eq_toNat_of_lt (by have := BitVec.toInt_eq_toNat_cond v; have := v.isLt; split at * <;> omega)
  have h511 : (511#32 : BitVec 32).toInt = 511 := rfl
  unfold IntOp.minsi BitVec.slt
  rw [hv, h511]
  by_cases hc : v.toNat < 511
  · rw [if_pos (decide_eq_true (by omega))]
    word_omega
  · rw [if_neg (by simpa using hc)]
    word_omega

/-- A word below 512 is a number's word exactly when it reads as that number. -/
theorem word_eq (x : BitVec 32) (l : Fin 512) : BitVec.ofNat 32 l.val = x ↔ x.toInt = (l.val : Int) := by
  have hl := l.isLt
  have ht : (BitVec.ofNat 32 l.val).toInt = (l.val : Int) := by
    simp only [BitVec.toInt_eq_toNat_cond, BitVec.toNat_ofNat]
    omega
  constructor
  · rintro rfl
    exact ht
  · intro h
    exact BitVec.eq_of_toInt_eq (ht.trans h.symm)

/-- The first coordinate of an edge's place is its batch. -/
theorem places_owner (e : IVec S32x512x2 32) (n : Fin 16384) : (places e (ix2 n 0)).toInt = ((n.val / 512 : Nat) : Int) := by
  pointwise [places, wrapped, cut, word, owner]
  have hn := n.isLt
  word_omega

/-- The second coordinate of an edge's place is its first end, cut at 511. -/
theorem places_head (e : IVec S32x512x2 32) (he : ∀ i, 0 ≤ (e i).toInt) (n : Fin 16384) (b : Fin 32) (k : Fin 512) (h : n.val = b.val * 512 + k.val) :
    places e (ix2 n 1) = IntOp.minsi (e (ix3 b k 0)) 511#32 := by
  pointwise [places, wrapped, cut, word, head]
  have hb : (⟨n.val / 512, by omega⟩ : Fin 32) = b := Fin.ext (by show n.val / 512 = b.val; omega)
  have hk : (⟨n.val % 512, by omega⟩ : Fin 512) = k := Fin.ext (by show n.val % 512 = k.val; omega)
  rw [hb, hk]
  exact cut_word _ (he _)

/-- The third coordinate of an edge's place is its second end, cut at 511. -/
theorem places_tail (e : IVec S32x512x2 32) (he : ∀ i, 0 ≤ (e i).toInt) (n : Fin 16384) (b : Fin 32) (k : Fin 512) (h : n.val = b.val * 512 + k.val) :
    places e (ix2 n 2) = IntOp.minsi (e (ix3 b k 1)) 511#32 := by
  pointwise [places, wrapped, cut, word, tail]
  have hb : (⟨n.val / 512, by omega⟩ : Fin 32) = b := Fin.ext (by show n.val / 512 = b.val; omega)
  have hk : (⟨n.val % 512, by omega⟩ : Fin 512) = k := Fin.ext (by show n.val % 512 = k.val; omega)
  rw [hb, hk]
  exact cut_word _ (he _)

/-- The place where a scatter puts an edge's one starts at the words of the edge. -/
theorem start_eq (idx : IVec S16384x3 32) (n : Fin 16384) (a : Fin 3) :
    scatter_S32x512x512_S16384x3_S16384_n_012_012_1.start (ix1 n) idx a = (idx (ix2 n a)).toInt := by
  have hm : ∀ a : Fin 3, a ∈ scatter_S32x512x512_S16384x3_S16384_n_012_012_1.scatterDimsToOperandDims := by decide
  unfold ScatterDims.start
  rw [dif_pos (hm a)]
  refine congrArg (fun i => (idx i).toInt) ?_
  funext q
  fin_cases a <;> fin_cases q <;> rfl

/-- A scattered one covers a single place. -/
theorem window_eq (n : Fin 16384) (a : Fin 3) :
    scatter_S32x512x512_S16384x3_S16384_n_012_012_1.window (ix1 n) a = 0 := by
  fin_cases a <;> rfl

/-- A scattered one lands at a place exactly when the edge's three words read as that place. -/
theorem lands_iff (idx : IVec S16384x3 32) (n : Fin 16384) (b : Fin 32) (l s : Fin 512) :
    scatter_S32x512x512_S16384x3_S16384_n_012_012_1.resultIdx? (ix1 n) idx = some (ix3 b l s)
      ↔ (idx (ix2 n 0)).toInt = (b.val : Int) ∧ (idx (ix2 n 1)).toInt = (l.val : Int) ∧ (idx (ix2 n 2)).toInt = (s.val : Int) := by
  rw [Routing.resultIdx?_eq_some]
  have hc : ∀ a : Fin 3, scatter_S32x512x512_S16384x3_S16384_n_012_012_1.start (ix1 n) idx a
      + (scatter_S32x512x512_S16384x3_S16384_n_012_012_1.window (ix1 n) a : Int) = (idx (ix2 n a)).toInt := by
    intro a
    rw [start_eq, window_eq]
    exact add_zero _
  constructor
  · intro h
    exact ⟨(hc 0).symm.trans (h 0), (hc 1).symm.trans (h 1), (hc 2).symm.trans (h 2)⟩
  · rintro ⟨h0, h1, h2⟩ a
    refine (hc a).trans ?_
    fin_cases a
    · exact h0
    · exact h1
    · exact h2

/-- An array marked by edges that are not negative, at a place: one where some edge names the place, its own value elsewhere. -/
theorem marked_apply (e : IVec S32x512x2 32) (he : ∀ i, 0 ≤ (e i).toInt) (z : FVec Ideal S32x512x512 .f32) (b : Fin 32) (l s : Fin 512) :
    marked e z (ix3 b l s) = if Touched (fun k => e (ix3 b k 0)) (fun k => e (ix3 b k 1)) l s then (1 : EReal) else z (ix3 b l s) := by
  split
  · next h =>
    obtain ⟨k, h0, h1⟩ := h
    have hb := b.isLt
    have hk := k.isLt
    let n : Fin 16384 := ⟨b.val * 512 + k.val, by omega⟩
    refine Routing.scatter_set_hit _ _ _ _ _ _ (fun k _ => ?_) (ix1 n) ((lands_iff _ n b l s).2 ⟨?_, ?_, ?_⟩)
    · pointwise
    · rw [places_owner]
      show (((b.val * 512 + k.val) / 512 : Nat) : Int) = b.val
      omega
    · rw [places_head e he n b k rfl]
      exact (word_eq _ l).1 h0
    · rw [places_tail e he n b k rfl]
      exact (word_eq _ s).1 h1
  · next h =>
    refine Routing.scatter_set_miss _ _ _ _ _ fun j hj => h ?_
    obtain ⟨n, rfl⟩ : ∃ n : Fin 16384, j = ix1 n := ⟨j 0, by funext a; fin_cases a; rfl⟩
    obtain ⟨h0, h1, h2⟩ := (lands_iff _ n b l s).1 hj
    rw [places_owner] at h0
    let k : Fin 512 := ⟨n.val % 512, Nat.mod_lt _ (by decide)⟩
    have hn : n.val = b.val * 512 + k.val := by
      show n.val = b.val * 512 + n.val % 512
      omega
    rw [places_head e he n b k hn] at h1
    rw [places_tail e he n b k hn] at h2
    exact ⟨k, (word_eq _ l).2 h1, (word_eq _ s).2 h2⟩

/-- The reference's result at a place, on edges that are not negative. -/
theorem refTerm_apply (x : FVec Ideal S512x32x1024 .f32) (w : FVec Ideal S512x1024 .f32) (e : IVec S32x512x2 32) (he : ∀ i, 0 ≤ (e i).toInt)
    (b : Fin 32) (l s : Fin 512) :
    refTerm x w e (ix3 b l s) = referenceForm (fun k => scores x w (ix3 k b l)) (Touched (fun k => e (ix3 b k 0)) (fun k => e (ix3 b k 1)) l)
      (top (scores x w) (ix2 b l)) (Ideal.ofBits .f32 0x2EDBE6FF#32) s := by
  pointwise [refTerm, weighed, small, alpha_apply, marked_apply e he]
  rfl

end Cert.ReferenceIdeal.Value
end
-- ==== Proof.Value.Meet.lean ====
module

public import proofs.«01_k».proof.Proof.Value.Batch
public import proofs.«01_k».proof.Proof.Value.Ref

@[expose] public section

set_option maxRecDepth 16384

noncomputable section

namespace Cert.Equation

open Idealize.ShloMosaic Cert.KernelIdeal

/-- On edges that are not negative, the kernel's result and the reference's are the same array. -/
theorem meet (x : FVec Ideal S512x32x1024 .f32) (w : FVec Ideal S512x1024 .f32) (e : IVec S32x512x2 32) (he : ∀ i, 0 ≤ (e i).toInt) :
    Cert.KernelIdeal.Stream.result (F := Ideal) x w e = Cert.ReferenceIdeal.Value.refTerm x w e := by
  funext i
  obtain ⟨b, l, s, rfl⟩ : ∃ (b : Fin 32) (l s : Fin 512), i = ix3 b l s := ⟨i 0, i 1, i 2, by funext a; fin_cases a <;> rfl⟩
  obtain ⟨ε, hε, he0⟩ := eps_real
  have hs : (fun k => Cert.ReferenceIdeal.Value.scores x w (ix3 k b l)) = fun k => ∑ d, (w (ix2 l d) * x (ix3 k b d) : EReal) := by
    funext k
    rw [Cert.ReferenceIdeal.Value.scores_apply]
    exact Finset.sum_congr rfl fun d _ => mul_comm _ _
  rw [Cert.ReferenceIdeal.Value.refTerm_apply x w e he b l s, Cert.ReferenceIdeal.Value.top_apply, he0, hs]
  refine (Cert.KernelIdeal.Stream.batch_apply _ _ _ l s).trans ?_
  rw [he0, ← equation _ _ ε hε s]
  rfl

end Cert.Equation
end
-- ==== Proof.Value.Pre.lean ====
module

public import proofs.«01_k».proof.Proof.Gen.Pre_no_negative_index
public import Idealize.ShloMosaic.Lib.Pointwise
public import Idealize.ShloMosaic.Lib.ReduceAll

@[expose] public section

noncomputable section

namespace Cert.Pre_no_negative_index

open Cert.Pre_no_negative_index.Gen Idealize.ShloMosaic

/-- What the precondition says of the arguments: no edge's end is negative. -/
theorem holds (x : FVec Ideal S512x32x1024 .f32) (n : IVec S32 32) (e : IVec S32x512x2 32) (w : FVec Ideal S512x1024 .f32)
    (h : fn (F := Ideal) x n e w = fun _ => 1#1) (i : S32x512x2.Idx) : 0 ≤ (e i).toInt := by
  haveI : Subsingleton S_.Idx := ⟨fun a b => funext fun k => k.elim0⟩
  exact IntOp.cmpi_sge.1 (Host.reduce_andi_all _ _ _ _ _ (congrFun h (fun k => k.elim0)) i)

end Cert.Pre_no_negative_index
end
-- ==== Proof.lean ====
module

public import proofs.«01_k».proof.Defs
public import proofs.«01_k».proof.Proof.Same
public import proofs.«01_k».proof.Proof.Stream.Frame
public import proofs.«01_k».proof.Proof.Gen.ReferenceIdeal.Run
public import proofs.«01_k».proof.Proof.Value.Meet
public import proofs.«01_k».proof.Proof.Value.Pre
public import Idealize.ShloMosaic.Lib.Quiescent

@[expose] public section

namespace Cert.Proof

open Idealize.ShloMosaic Idealize.SL.Sem

/-- The kernel ends without fault, its arguments unchanged and every semaphore counter at zero. -/
theorem kernel_frame (m : (ℓ : Loc Cert.Kernel.nD Cert.Kernel.τ Cert.Kernel.sig) → Buf (Elt Bits) ℓ)
    (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_same, main_same]
  exact Cert.KernelIdeal.Stream.frame (F := Bits) m ρ

/-- The ideal reference ends without fault, its arguments unchanged; it has no semaphores. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩) (Cert.ReferenceIdeal.Value.run m ρ)

/-- From arguments that agree and meet the precondition, both programs end with the array the kernel's blocks make. -/
theorem equal_results : Cert.algebraic_KernelIdeal_ReferenceIdeal_pre_no_negative_index := by
  intro m g m' g' hp hag
  refine ⟨fun c => Cert.KernelIdeal.Stream.result (m ((c.tc : Thread Cert.KernelIdeal.nD Cert.KernelIdeal.τ).loc Cert.KernelIdeal.main_arg0))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg2)), Cert.KernelIdeal.Stream.run_result m g, ?_⟩
  refine (θ_run Cert.ReferenceIdeal.defs _ _).mono (fun r h c => ⟨(h c).1.trans ?_, (h c).2⟩) (Cert.ReferenceIdeal.Value.run m' g')
  have he := Cert.Pre_no_negative_index.holds _ _ _ _ (hp c)
  rw [Cert.ReferenceIdeal.Value.res_eq, (hag c).1, (hag c).2.2.1, (hag c).2.2.2]
  exact (Cert.Equation.meet _ _ _ he).symm

/-- All the claims. -/
theorem claim : Cert.Claim :=
  ⟨Cert.Kernel.Gen.facts, Cert.KernelIdeal.Gen.facts, Cert.ReferenceIdeal.Gen.facts, Cert.Pre_no_negative_index.Gen.facts,
    fun m ρ _ => kernel_frame m ρ,
    fun m ρ _ => Cert.KernelIdeal.Stream.frame m ρ,
    fun m ρ _ => Cert.KernelIdeal.Stream.frame m ρ,
    fun m ρ _ => reference_frame m ρ,
    fun m ρ _ => reference_frame m ρ,
    trivial,
    equal_results⟩

end Cert.Proof
